-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x3x32x32 : Shape := ⟨4, ![4096, 3, 32, 32]⟩
abbrev S6x3x5x5 : Shape := ⟨4, ![6, 3, 5, 5]⟩
abbrev S6 : Shape := ⟨1, ![6]⟩
abbrev S16x6x5x5 : Shape := ⟨4, ![16, 6, 5, 5]⟩
abbrev S16 : Shape := ⟨1, ![16]⟩
abbrev S120x400 : Shape := ⟨2, ![120, 400]⟩
abbrev S120 : Shape := ⟨1, ![120]⟩
abbrev S84x120 : Shape := ⟨2, ![84, 120]⟩
abbrev S84 : Shape := ⟨1, ![84]⟩
abbrev S84x2 : Shape := ⟨2, ![84, 2]⟩
abbrev S2x84x84 : Shape := ⟨3, ![2, 84, 84]⟩
abbrev S2x84 : Shape := ⟨2, ![2, 84]⟩
abbrev S10x84 : Shape := ⟨2, ![10, 84]⟩
abbrev S10 : Shape := ⟨1, ![10]⟩
abbrev S5x32x28 : Shape := ⟨3, ![5, 32, 28]⟩
abbrev S5x14x10 : Shape := ⟨3, ![5, 14, 10]⟩
abbrev S168x84 : Shape := ⟨2, ![168, 84]⟩
abbrev S160x80 : Shape := ⟨2, ![160, 80]⟩
abbrev S32x4096x3x32 : Shape := ⟨4, ![32, 4096, 3, 32]⟩
abbrev S32x4096x96 : Shape := ⟨3, ![32, 4096, 96]⟩
abbrev S32x28x6x3x5 : Shape := ⟨5, ![32, 28, 6, 3, 5]⟩
abbrev S5x3x32x6x28 : Shape := ⟨5, ![5, 3, 32, 6, 28]⟩
abbrev S480x168 : Shape := ⟨2, ![480, 168]⟩
abbrev S14x10x16x6x5 : Shape := ⟨5, ![14, 10, 16, 6, 5]⟩
abbrev S5x6x14x16x10 : Shape := ⟨5, ![5, 6, 14, 16, 10]⟩
abbrev S420x160 : Shape := ⟨2, ![420, 160]⟩
abbrev S6x28 : Shape := ⟨2, ![6, 28]⟩
abbrev S168 : Shape := ⟨1, ![168]⟩
abbrev S1x168 : Shape := ⟨2, ![1, 168]⟩
abbrev S16x10 : Shape := ⟨2, ![16, 10]⟩
abbrev S160 : Shape := ⟨1, ![160]⟩
abbrev S1x160 : Shape := ⟨2, ![1, 160]⟩
abbrev S120x16x5x5 : Shape := ⟨4, ![120, 16, 5, 5]⟩
abbrev S5x16x5x120 : Shape := ⟨4, ![5, 16, 5, 120]⟩
abbrev S400x120 : Shape := ⟨2, ![400, 120]⟩
abbrev S1x120 : Shape := ⟨2, ![1, 120]⟩
abbrev S120x84 : Shape := ⟨2, ![120, 84]⟩
abbrev S1x84 : Shape := ⟨2, ![1, 84]⟩
abbrev S84x10 : Shape := ⟨2, ![84, 10]⟩
abbrev S1x10 : Shape := ⟨2, ![1, 10]⟩
abbrev S4096x10 : Shape := ⟨2, ![4096, 10]⟩
abbrev S32x1024x96 : Shape := ⟨3, ![32, 1024, 96]⟩
abbrev S1024x10 : Shape := ⟨2, ![1024, 10]⟩
abbrev S28x1024x96 : Shape := ⟨3, ![28, 1024, 96]⟩
abbrev S28672x96 : Shape := ⟨2, ![28672, 96]⟩
abbrev S28672x480 : Shape := ⟨2, ![28672, 480]⟩
abbrev S28672x168 : Shape := ⟨2, ![28672, 168]⟩
abbrev S14x2x1024x168 : Shape := ⟨4, ![14, 2, 1024, 168]⟩
abbrev S14x1024x168 : Shape := ⟨3, ![14, 1024, 168]⟩
abbrev S14x1024x167 : Shape := ⟨3, ![14, 1024, 167]⟩
abbrev S14x1024x1 : Shape := ⟨3, ![14, 1024, 1]⟩
abbrev S1x1x168 : Shape := ⟨3, ![1, 1, 168]⟩
abbrev S14336x168 : Shape := ⟨2, ![14336, 168]⟩
abbrev S14336x84 : Shape := ⟨2, ![14336, 84]⟩
abbrev S14x1024x84 : Shape := ⟨3, ![14, 1024, 84]⟩
abbrev S10x1024x84 : Shape := ⟨3, ![10, 1024, 84]⟩
abbrev S10240x84 : Shape := ⟨2, ![10240, 84]⟩
abbrev S10240x420 : Shape := ⟨2, ![10240, 420]⟩
abbrev S10240x160 : Shape := ⟨2, ![10240, 160]⟩
abbrev S5x2x1024x160 : Shape := ⟨4, ![5, 2, 1024, 160]⟩
abbrev S5x1024x160 : Shape := ⟨3, ![5, 1024, 160]⟩
abbrev S5x1024x159 : Shape := ⟨3, ![5, 1024, 159]⟩
abbrev S5x1024x1 : Shape := ⟨3, ![5, 1024, 1]⟩
abbrev S1x1x160 : Shape := ⟨3, ![1, 1, 160]⟩
abbrev S5120x160 : Shape := ⟨2, ![5120, 160]⟩
abbrev S5120x80 : Shape := ⟨2, ![5120, 80]⟩
abbrev S5x1024x80 : Shape := ⟨3, ![5, 1024, 80]⟩
abbrev S1x1024x80 : Shape := ⟨3, ![1, 1024, 80]⟩
abbrev S1024x80 : Shape := ⟨2, ![1024, 80]⟩
abbrev S1024x400 : Shape := ⟨2, ![1024, 400]⟩
abbrev S1024x120 : Shape := ⟨2, ![1024, 120]⟩
abbrev S1024x84 : Shape := ⟨2, ![1024, 84]⟩
abbrev S1024x2 : Shape := ⟨2, ![1024, 2]⟩
abbrev S1024 : Shape := ⟨1, ![1024]⟩
abbrev S1024x1 : Shape := ⟨2, ![1024, 1]⟩
abbrev S1x84x84 : Shape := ⟨3, ![1, 84, 84]⟩
abbrev S84x84 : Shape := ⟨2, ![84, 84]⟩

abbrev nBuf : Space → Nat
  | .hbm => 50
  | .vmem => 19
  | .smem => 0
  | _ => 0

abbrev bufTy : (tb : Table) → Fin (tcTables nBuf tb) → BufTy
  | .hbm, ⟨0, _⟩ => ⟨S4096x3x32x32, .f32⟩
  | .hbm, ⟨1, _⟩ => ⟨S6x3x5x5, .f32⟩
  | .hbm, ⟨2, _⟩ => ⟨S6, .f32⟩
  | .hbm, ⟨3, _⟩ => ⟨S16x6x5x5, .f32⟩
  | .hbm, ⟨4, _⟩ => ⟨S16, .f32⟩
  | .hbm, ⟨5, _⟩ => ⟨S120x400, .f32⟩
  | .hbm, ⟨6, _⟩ => ⟨S120, .f32⟩
  | .hbm, ⟨7, _⟩ => ⟨S84x120, .f32⟩
  | .hbm, ⟨8, _⟩ => ⟨S84, .f32⟩
  | .hbm, ⟨9, _⟩ => ⟨S84x2, .f32⟩
  | .hbm, ⟨10, _⟩ => ⟨S2x84x84, .f32⟩
  | .hbm, ⟨11, _⟩ => ⟨S2x84, .f32⟩
  | .hbm, ⟨12, _⟩ => ⟨S10x84, .f32⟩
  | .hbm, ⟨13, _⟩ => ⟨S10, .f32⟩
  | .hbm, ⟨14, _⟩ => ⟨S5x32x28, .f32⟩
  | .hbm, ⟨15, _⟩ => ⟨S5x14x10, .f32⟩
  | .hbm, ⟨16, _⟩ => ⟨S168x84, .bf16⟩
  | .hbm, ⟨17, _⟩ => ⟨S160x80, .bf16⟩
  | .hbm, ⟨18, _⟩ => ⟨S32x4096x3x32, .f32⟩
  | .hbm, ⟨19, _⟩ => ⟨S32x4096x96, .f32⟩
  | .hbm, ⟨20, _⟩ => ⟨S32x4096x96, .bf16⟩
  | .hbm, ⟨21, _⟩ => ⟨S32x28x6x3x5, .f32⟩
  | .hbm, ⟨22, _⟩ => ⟨S5x3x32x6x28, .f32⟩
  | .hbm, ⟨23, _⟩ => ⟨S480x168, .f32⟩
  | .hbm, ⟨24, _⟩ => ⟨S480x168, .bf16⟩
  | .hbm, ⟨25, _⟩ => ⟨S14x10x16x6x5, .f32⟩
  | .hbm, ⟨26, _⟩ => ⟨S5x6x14x16x10, .f32⟩
  | .hbm, ⟨27, _⟩ => ⟨S420x160, .f32⟩
  | .hbm, ⟨28, _⟩ => ⟨S420x160, .bf16⟩
  | .hbm, ⟨29, _⟩ => ⟨S6x28, .f32⟩
  | .hbm, ⟨30, _⟩ => ⟨S168, .f32⟩
  | .hbm, ⟨31, _⟩ => ⟨S1x168, .f32⟩
  | .hbm, ⟨32, _⟩ => ⟨S16x10, .f32⟩
  | .hbm, ⟨33, _⟩ => ⟨S160, .f32⟩
  | .hbm, ⟨34, _⟩ => ⟨S1x160, .f32⟩
  | .hbm, ⟨35, _⟩ => ⟨S120x16x5x5, .f32⟩
  | .hbm, ⟨36, _⟩ => ⟨S5x16x5x120, .f32⟩
  | .hbm, ⟨37, _⟩ => ⟨S400x120, .f32⟩
  | .hbm, ⟨38, _⟩ => ⟨S400x120, .bf16⟩
  | .hbm, ⟨39, _⟩ => ⟨S2x84x84, .f32⟩
  | .hbm, ⟨40, _⟩ => ⟨S2x84x84, .bf16⟩
  | .hbm, ⟨41, _⟩ => ⟨S1x120, .f32⟩
  | .hbm, ⟨42, _⟩ => ⟨S120x84, .f32⟩
  | .hbm, ⟨43, _⟩ => ⟨S120x84, .bf16⟩
  | .hbm, ⟨44, _⟩ => ⟨S1x84, .f32⟩
  | .hbm, ⟨45, _⟩ => ⟨S84x2, .bf16⟩
  | .hbm, ⟨46, _⟩ => ⟨S84x10, .f32⟩
  | .hbm, ⟨47, _⟩ => ⟨S84x10, .bf16⟩
  | .hbm, ⟨48, _⟩ => ⟨S1x10, .f32⟩
  | .hbm, ⟨49, _⟩ => ⟨S4096x10, .f32⟩
  | .local _ .vmem, ⟨0, _⟩ => ⟨S32x1024x96, .bf16⟩
  | .local _ .vmem, ⟨1, _⟩ => ⟨S32x1024x96, .bf16⟩
  | .local _ .vmem, ⟨2, _⟩ => ⟨S480x168, .bf16⟩
  | .local _ .vmem, ⟨3, _⟩ => ⟨S1x168, .f32⟩
  | .local _ .vmem, ⟨4, _⟩ => ⟨S420x160, .bf16⟩
  | .local _ .vmem, ⟨5, _⟩ => ⟨S1x160, .f32⟩
  | .local _ .vmem, ⟨6, _⟩ => ⟨S168x84, .bf16⟩
  | .local _ .vmem, ⟨7, _⟩ => ⟨S160x80, .bf16⟩
  | .local _ .vmem, ⟨8, _⟩ => ⟨S400x120, .bf16⟩
  | .local _ .vmem, ⟨9, _⟩ => ⟨S1x120, .f32⟩
  | .local _ .vmem, ⟨10, _⟩ => ⟨S120x84, .bf16⟩
  | .local _ .vmem, ⟨11, _⟩ => ⟨S1x84, .f32⟩
  | .local _ .vmem, ⟨12, _⟩ => ⟨S84x2, .bf16⟩
  | .local _ .vmem, ⟨13, _⟩ => ⟨S2x84x84, .bf16⟩
  | .local _ .vmem, ⟨14, _⟩ => ⟨S2x84, .f32⟩
  | .local _ .vmem, ⟨15, _⟩ => ⟨S84x10, .bf16⟩
  | .local _ .vmem, ⟨16, _⟩ => ⟨S1x10, .f32⟩
  | .local _ .vmem, ⟨17, _⟩ => ⟨S1024x10, .f32⟩
  | .local _ .vmem, ⟨18, _⟩ => ⟨S1024x10, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_cst : Ref sig .tc := ⟨.hbm, 14, rfl⟩
abbrev main_call0_cst_0 : Ref sig .tc := ⟨.hbm, 15, rfl⟩
abbrev main_call0_cst_1 : Ref sig .tc := ⟨.hbm, 16, rfl⟩
abbrev main_call0_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_v0 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S480x168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S420x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S168x84 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S160x80 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400x120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S120x84 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x84 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S84x2 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x84x84 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x84 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S84x10 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x10 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x10 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S4096x3x32x32 : Shape := ⟨4, ![4096, 3, 32, 32]⟩
abbrev S6x3x5x5 : Shape := ⟨4, ![6, 3, 5, 5]⟩
abbrev S6 : Shape := ⟨1, ![6]⟩
abbrev S16x6x5x5 : Shape := ⟨4, ![16, 6, 5, 5]⟩
abbrev S16 : Shape := ⟨1, ![16]⟩
abbrev S120x400 : Shape := ⟨2, ![120, 400]⟩
abbrev S120 : Shape := ⟨1, ![120]⟩
abbrev S84x120 : Shape := ⟨2, ![84, 120]⟩
abbrev S84 : Shape := ⟨1, ![84]⟩
abbrev S84x2 : Shape := ⟨2, ![84, 2]⟩
abbrev S2x84x84 : Shape := ⟨3, ![2, 84, 84]⟩
abbrev S2x84 : Shape := ⟨2, ![2, 84]⟩
abbrev S10x84 : Shape := ⟨2, ![10, 84]⟩
abbrev S10 : Shape := ⟨1, ![10]⟩
abbrev S4096x3x32x28 : Shape := ⟨4, ![4096, 3, 32, 28]⟩
abbrev S4096x3x1x32x28 : Shape := ⟨5, ![4096, 3, 1, 32, 28]⟩
abbrev S4096x3x5x32x28 : Shape := ⟨5, ![4096, 3, 5, 32, 28]⟩
abbrev S4096x3x5x28x28 : Shape := ⟨5, ![4096, 3, 5, 28, 28]⟩
abbrev S4096x3x1x5x28x28 : Shape := ⟨6, ![4096, 3, 1, 5, 28, 28]⟩
abbrev S4096x3x5x5x28x28 : Shape := ⟨6, ![4096, 3, 5, 5, 28, 28]⟩
abbrev S6x4096x28x28 : Shape := ⟨4, ![6, 4096, 28, 28]⟩
abbrev S4096x6x28x28 : Shape := ⟨4, ![4096, 6, 28, 28]⟩
abbrev S1x6x1x1 : Shape := ⟨4, ![1, 6, 1, 1]⟩
abbrev S_ : Shape := ⟨0, ![]⟩
abbrev S4096x6x14x14 : Shape := ⟨4, ![4096, 6, 14, 14]⟩
abbrev S4096x6x14x10 : Shape := ⟨4, ![4096, 6, 14, 10]⟩
abbrev S4096x6x1x14x10 : Shape := ⟨5, ![4096, 6, 1, 14, 10]⟩
abbrev S4096x6x5x14x10 : Shape := ⟨5, ![4096, 6, 5, 14, 10]⟩
abbrev S4096x6x5x10x10 : Shape := ⟨5, ![4096, 6, 5, 10, 10]⟩
abbrev S4096x6x1x5x10x10 : Shape := ⟨6, ![4096, 6, 1, 5, 10, 10]⟩
abbrev S4096x6x5x5x10x10 : Shape := ⟨6, ![4096, 6, 5, 5, 10, 10]⟩
abbrev S16x4096x10x10 : Shape := ⟨4, ![16, 4096, 10, 10]⟩
abbrev S4096x16x10x10 : Shape := ⟨4, ![4096, 16, 10, 10]⟩
abbrev S1x16x1x1 : Shape := ⟨4, ![1, 16, 1, 1]⟩
abbrev S4096x16x5x5 : Shape := ⟨4, ![4096, 16, 5, 5]⟩
abbrev S4096x400 : Shape := ⟨2, ![4096, 400]⟩
abbrev S400x120 : Shape := ⟨2, ![400, 120]⟩
abbrev S4096x120 : Shape := ⟨2, ![4096, 120]⟩
abbrev S1x120 : Shape := ⟨2, ![1, 120]⟩
abbrev S120x84 : Shape := ⟨2, ![120, 84]⟩
abbrev S4096x84 : Shape := ⟨2, ![4096, 84]⟩
abbrev S1x84 : Shape := ⟨2, ![1, 84]⟩
abbrev S4096x2 : Shape := ⟨2, ![4096, 2]⟩
abbrev S4096 : Shape := ⟨1, ![4096]⟩
abbrev S4096x1 : Shape := ⟨2, ![4096, 1]⟩
abbrev S4096x2x84 : Shape := ⟨3, ![4096, 2, 84]⟩
abbrev S1x2x84 : Shape := ⟨3, ![1, 2, 84]⟩
abbrev S4096x2x1 : Shape := ⟨3, ![4096, 2, 1]⟩
abbrev S1 : Shape := ⟨1, ![1]⟩
abbrev S1x1x1 : Shape := ⟨3, ![1, 1, 1]⟩
abbrev S84x10 : Shape := ⟨2, ![84, 10]⟩
abbrev S4096x10 : Shape := ⟨2, ![4096, 10]⟩
abbrev S1x10 : Shape := ⟨2, ![1, 10]⟩

abbrev nBuf : Space → Nat
  | .hbm => 159
  | .vmem => 0
  | .smem => 0
  | _ => 0

abbrev hbmTy0_0 (i : Nat) : BufTy := match i % 128 with
  | 0 => ⟨S4096x3x32x32, .f32⟩
  | 1 => ⟨S6x3x5x5, .f32⟩
  | 2 => ⟨S6, .f32⟩
  | 3 => ⟨S16x6x5x5, .f32⟩
  | 4 => ⟨S16, .f32⟩
  | 5 => ⟨S120x400, .f32⟩
  | 6 => ⟨S120, .f32⟩
  | 7 => ⟨S84x120, .f32⟩
  | 8 => ⟨S84, .f32⟩
  | 9 => ⟨S84x2, .f32⟩
  | 10 => ⟨S2x84x84, .f32⟩
  | 11 => ⟨S2x84, .f32⟩
  | 12 => ⟨S10x84, .f32⟩
  | 13 => ⟨S10, .f32⟩
  | 14 => ⟨S4096x3x32x28, .f32⟩
  | 15 => ⟨S4096x3x32x28, .f32⟩
  | 16 => ⟨S4096x3x32x28, .f32⟩
  | 17 => ⟨S4096x3x32x28, .f32⟩
  | 18 => ⟨S4096x3x32x28, .f32⟩
  | 19 => ⟨S4096x3x1x32x28, .f32⟩
  | 20 => ⟨S4096x3x1x32x28, .f32⟩
  | 21 => ⟨S4096x3x1x32x28, .f32⟩
  | 22 => ⟨S4096x3x1x32x28, .f32⟩
  | 23 => ⟨S4096x3x1x32x28, .f32⟩
  | 24 => ⟨S4096x3x5x32x28, .f32⟩
  | 25 => ⟨S4096x3x5x28x28, .f32⟩
  | 26 => ⟨S4096x3x5x28x28, .f32⟩
  | 27 => ⟨S4096x3x5x28x28, .f32⟩
  | 28 => ⟨S4096x3x5x28x28, .f32⟩
  | 29 => ⟨S4096x3x5x28x28, .f32⟩
  | 30 => ⟨S4096x3x1x5x28x28, .f32⟩
  | 31 => ⟨S4096x3x1x5x28x28, .f32⟩
  | 32 => ⟨S4096x3x1x5x28x28, .f32⟩
  | 33 => ⟨S4096x3x1x5x28x28, .f32⟩
  | 34 => ⟨S4096x3x1x5x28x28, .f32⟩
  | 35 => ⟨S4096x3x5x5x28x28, .f32⟩
  | 36 => ⟨S6x4096x28x28, .f32⟩
  | 37 => ⟨S4096x6x28x28, .f32⟩
  | 38 => ⟨S1x6x1x1, .f32⟩
  | 39 => ⟨S4096x6x28x28, .f32⟩
  | 40 => ⟨S4096x6x28x28, .f32⟩
  | 41 => ⟨S_, .f32⟩
  | 42 => ⟨S4096x6x28x28, .f32⟩
  | 43 => ⟨S4096x6x28x28, .f32⟩
  | 44 => ⟨S_, .f32⟩
  | 45 => ⟨S_, .f32⟩
  | 46 => ⟨S4096x6x14x14, .f32⟩
  | 47 => ⟨S4096x6x14x10, .f32⟩
  | 48 => ⟨S4096x6x14x10, .f32⟩
  | 49 => ⟨S4096x6x14x10, .f32⟩
  | 50 => ⟨S4096x6x14x10, .f32⟩
  | 51 => ⟨S4096x6x14x10, .f32⟩
  | 52 => ⟨S4096x6x1x14x10, .f32⟩
  | 53 => ⟨S4096x6x1x14x10, .f32⟩
  | 54 => ⟨S4096x6x1x14x10, .f32⟩
  | 55 => ⟨S4096x6x1x14x10, .f32⟩
  | 56 => ⟨S4096x6x1x14x10, .f32⟩
  | 57 => ⟨S4096x6x5x14x10, .f32⟩
  | 58 => ⟨S4096x6x5x10x10, .f32⟩
  | 59 => ⟨S4096x6x5x10x10, .f32⟩
  | 60 => ⟨S4096x6x5x10x10, .f32⟩
  | 61 => ⟨S4096x6x5x10x10, .f32⟩
  | 62 => ⟨S4096x6x5x10x10, .f32⟩
  | 63 => ⟨S4096x6x1x5x10x10, .f32⟩
  | 64 => ⟨S4096x6x1x5x10x10, .f32⟩
  | 65 => ⟨S4096x6x1x5x10x10, .f32⟩
  | 66 => ⟨S4096x6x1x5x10x10, .f32⟩
  | 67 => ⟨S4096x6x1x5x10x10, .f32⟩
  | 68 => ⟨S4096x6x5x5x10x10, .f32⟩
  | 69 => ⟨S16x4096x10x10, .f32⟩
  | 70 => ⟨S4096x16x10x10, .f32⟩
  | 71 => ⟨S1x16x1x1, .f32⟩
  | 72 => ⟨S4096x16x10x10, .f32⟩
  | 73 => ⟨S4096x16x10x10, .f32⟩
  | 74 => ⟨S_, .f32⟩
  | 75 => ⟨S4096x16x10x10, .f32⟩
  | 76 => ⟨S4096x16x10x10, .f32⟩
  | 77 => ⟨S_, .f32⟩
  | 78 => ⟨S_, .f32⟩
  | 79 => ⟨S4096x16x5x5, .f32⟩
  | 80 => ⟨S4096x400, .f32⟩
  | 81 => ⟨S400x120, .f32⟩
  | 82 => ⟨S4096x120, .f32⟩
  | 83 => ⟨S1x120, .f32⟩
  | 84 => ⟨S4096x120, .f32⟩
  | 85 => ⟨S4096x120, .f32⟩
  | 86 => ⟨S_, .f32⟩
  | 87 => ⟨S4096x120, .f32⟩
  | 88 => ⟨S4096x120, .f32⟩
  | 89 => ⟨S120x84, .f32⟩
  | 90 => ⟨S4096x84, .f32⟩
  | 91 => ⟨S1x84, .f32⟩
  | 92 => ⟨S4096x84, .f32⟩
  | 93 => ⟨S4096x84, .f32⟩
  | 94 => ⟨S_, .f32⟩
  | 95 => ⟨S4096x84, .f32⟩
  | 96 => ⟨S4096x84, .f32⟩
  | 97 => ⟨S4096x2, .f32⟩
  | 98 => ⟨S_, .f32⟩
  | 99 => ⟨S4096, .f32⟩
  | 100 => ⟨S_, .f32⟩
  | 101 => ⟨S4096, .f32⟩
  | 102 => ⟨S4096, .f32⟩
  | 103 => ⟨S4096x1, .f32⟩
  | 104 => ⟨S4096x2, .f32⟩
  | 105 => ⟨S4096x2, .f32⟩
  | 106 => ⟨S4096x2, .f32⟩
  | 107 => ⟨S_, .f32⟩
  | 108 => ⟨S4096, .f32⟩
  | 109 => ⟨S4096x1, .f32⟩
  | 110 => ⟨S4096x2, .f32⟩
  | 111 => ⟨S4096x2, .f32⟩
  | 112 => ⟨S4096x2, .f32⟩
  | 113 => ⟨S4096x2, .i32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S4096x2, .f32⟩
  | 121 => ⟨S4096x2, .f32⟩
  | 122 => ⟨S4096x2x84, .f32⟩
  | 123 => ⟨S1x2x84, .f32⟩
  | 124 => ⟨S4096x2x84, .f32⟩
  | 125 => ⟨S4096x2x84, .f32⟩
  | 126 => ⟨S4096x2x1, .i32⟩
  | 127 => ⟨S_, .i32⟩
  | _ => ⟨S4096x3x32x32, .f32⟩

abbrev hbmTy0_1 (i : Nat) : BufTy := match i % 128 with
  | 0 => ⟨S4096x2x1, .i32⟩
  | 1 => ⟨S4096x2x1, .i1⟩
  | 2 => ⟨S_, .i32⟩
  | 3 => ⟨S4096x2x1, .i32⟩
  | 4 => ⟨S4096x2x1, .i32⟩
  | 5 => ⟨S4096x2x1, .i32⟩
  | 6 => ⟨S1, .i32⟩
  | 7 => ⟨S_, .i32⟩
  | 8 => ⟨S4096x2x1, .i32⟩
  | 9 => ⟨S4096x2x1, .i1⟩
  | 10 => ⟨S1x1x1, .i32⟩
  | 11 => ⟨S4096x2x1, .i32⟩
  | 12 => ⟨S4096x2x1, .i1⟩
  | 13 => ⟨S4096x2x1, .i1⟩
  | 14 => ⟨S_, .i1⟩
  | 15 => ⟨S4096x2, .i1⟩
  | 16 => ⟨S4096x2x84, .f32⟩
  | 17 => ⟨S4096x2x84, .i1⟩
  | 18 => ⟨S_, .f32⟩
  | 19 => ⟨S4096x2x84, .f32⟩
  | 20 => ⟨S4096x2x84, .f32⟩
  | 21 => ⟨S4096x2x1, .f32⟩
  | 22 => ⟨S4096x2x84, .f32⟩
  | 23 => ⟨S4096x2x84, .f32⟩
  | 24 => ⟨S_, .f32⟩
  | 25 => ⟨S4096x84, .f32⟩
  | 26 => ⟨S84x10, .f32⟩
  | 27 => ⟨S4096x10, .f32⟩
  | 28 => ⟨S1x10, .f32⟩
  | 29 => ⟨S4096x10, .f32⟩
  | 30 => ⟨S4096x10, .f32⟩
  | _ => ⟨S4096x3x32x32, .f32⟩

abbrev hbmTy (i : Nat) : BufTy := match i / 128 with
  | 0 => hbmTy0_0 i
  | 1 => hbmTy0_1 i
  | _ => ⟨S4096x3x32x32, .f32⟩

abbrev bufTy : (tb : Table) → Fin (tcTables nBuf tb) → BufTy
  | .hbm, ⟨i, _⟩ => hbmTy i
  | _, _ => ⟨S4096x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call1_cst : Ref sig .tc := ⟨.hbm, 74, rfl⟩
abbrev main_call1_v0 : Ref sig .tc := ⟨.hbm, 75, rfl⟩
abbrev main_v57 : Ref sig .tc := ⟨.hbm, 76, rfl⟩
abbrev main_cst_0 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call2_cst : Ref sig .tc := ⟨.hbm, 86, rfl⟩
abbrev main_call2_v0 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call3_cst : Ref sig .tc := ⟨.hbm, 94, rfl⟩
abbrev main_call3_v0 : Ref sig .tc := ⟨.hbm, 95, rfl⟩
abbrev main_v72 : Ref sig .tc := ⟨.hbm, 96, rfl⟩
abbrev main_v73 : Ref sig .tc := ⟨.hbm, 97, rfl⟩
abbrev main_cst_1 : Ref sig .tc := ⟨.hbm, 98, rfl⟩
abbrev main_v74 : Ref sig .tc := ⟨.hbm, 99, rfl⟩
abbrev main_cst_2 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_3 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_values : Ref sig .tc := ⟨.hbm, 112, rfl⟩
abbrev main_indices : Ref sig .tc := ⟨.hbm, 113, rfl⟩
abbrev main_cst_4 : Ref sig .tc := ⟨.hbm, 114, rfl⟩
abbrev main_v85 : Ref sig .tc := ⟨.hbm, 115, rfl⟩
abbrev main_v86 : Ref sig .tc := ⟨.hbm, 116, rfl⟩
abbrev main_cst_5 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_call4_c : Ref sig .tc := ⟨.hbm, 127, rfl⟩
abbrev main_call4_v0 : Ref sig .tc := ⟨.hbm, 128, rfl⟩
abbrev main_call4_v1 : Ref sig .tc := ⟨.hbm, 129, rfl⟩
abbrev main_call4_c_0 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_c_1 : Ref sig .tc := ⟨.hbm, 134, rfl⟩
abbrev main_call4_c_2 : Ref sig .tc := ⟨.hbm, 135, rfl⟩
abbrev main_call4_v5 : Ref sig .tc := ⟨.hbm, 136, rfl⟩
abbrev main_call4_v6 : Ref sig .tc := ⟨.hbm, 137, rfl⟩
abbrev main_call4_v7 : Ref sig .tc := ⟨.hbm, 138, rfl⟩
abbrev main_call4_v8 : Ref sig .tc := ⟨.hbm, 139, rfl⟩
abbrev main_call4_v9 : Ref sig .tc := ⟨.hbm, 140, rfl⟩
abbrev main_call4_v10 : Ref sig .tc := ⟨.hbm, 141, rfl⟩
abbrev main_call4_c_3 : Ref sig .tc := ⟨.hbm, 142, rfl⟩
abbrev main_call4_v11 : Ref sig .tc := ⟨.hbm, 143, rfl⟩
abbrev main_call4_v12 : Ref sig .tc := ⟨.hbm, 144, rfl⟩
abbrev main_call4_v13 : Ref sig .tc := ⟨.hbm, 145, rfl⟩
abbrev main_call4_cst : Ref sig .tc := ⟨.hbm, 146, rfl⟩
abbrev main_call4_v14 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_6 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩

abbrev nD : Nat := 1
abbrev τ : Topo := Topo.v7x

variable {F : FTy → Type} [FloatOps F]
-- ==== Proof.Spec.lean ====
/- The network on one image, as plain mathematics over the extended reals: two rounds of a 5 × 5 correlation,
   a bias, a rectifier and a 2 × 2 maximum; two dense layers; a gated mixture of two experts; a last dense layer.
   Both programs are shown to compute `net`. -/
module

public import Idealize.ShloMosaic.Lib.Pointwise

@[expose] public section

noncomputable section

namespace Cert.Net

open Idealize.ShloMosaic

/-- An array of extended reals of a given shape. -/
abbrev Arr (s : Shape) : Type := s.Idx → EReal

/-- The 5 × 5 correlation of the planes `X` with the kernel `K`, at output position `(i, j)`. -/
def conv {C H W h w : ℕ} (hH : h + 4 = H) (hW : w + 4 = W) (X : Fin C → Fin H → Fin W → EReal)
    (K : Fin C → Fin 5 → Fin 5 → EReal) (i : Fin h) (j : Fin w) : EReal :=
  ∑ c : Fin C, ∑ y : Fin 5, ∑ x : Fin 5, X c ⟨i.val + y.val, by omega⟩ ⟨j.val + x.val, by omega⟩ * K c y x

/-- The maximum of a plane over the 2 × 2 square at `(2 a, 2 b)`. -/
def pool {H W h w : ℕ} (hH : h * 2 = H) (hW : w * 2 = W) (Z : Fin H → Fin W → EReal) (a : Fin h) (b : Fin w) : EReal :=
  max (max (Z ⟨a.val * 2, by omega⟩ ⟨b.val * 2, by omega⟩) (Z ⟨a.val * 2, by omega⟩ ⟨b.val * 2 + 1, by omega⟩))
    (max (Z ⟨a.val * 2 + 1, by omega⟩ ⟨b.val * 2, by omega⟩) (Z ⟨a.val * 2 + 1, by omega⟩ ⟨b.val * 2 + 1, by omega⟩))

/-- The first round's output for an image: channel `o` at `(a, b)`. -/
def stage1 (X : Fin 3 → Fin 32 → Fin 32 → EReal) (K : Fin 6 → Fin 3 → Fin 5 → Fin 5 → EReal) (β : Fin 6 → EReal)
    (o : Fin 6) (a b : Fin 14) : EReal :=
  pool (H := 28) (W := 28) rfl rfl (fun i j => max (conv rfl rfl X (K o) i j + β o) 0) a b

/-- The second round's output for an image: channel `o` at `(a, b)`. -/
def stage2 (X : Fin 6 → Fin 14 → Fin 14 → EReal) (K : Fin 16 → Fin 6 → Fin 5 → Fin 5 → EReal) (β : Fin 16 → EReal)
    (o : Fin 16) (a b : Fin 5) : EReal :=
  pool (H := 10) (W := 10) rfl rfl (fun i j => max (conv rfl rfl X (K o) i j + β o) 0) a b

/-- The first dense layer, over the sixteen 5 × 5 planes. -/
def dense1 (Y : Fin 16 → Fin 5 → Fin 5 → EReal) (A : Arr ⟨2, ![120, 400]⟩) (β : Arr ⟨1, ![120]⟩) (q : Fin 120) : EReal :=
  max ((∑ c : Fin 16, ∑ y : Fin 5, ∑ x : Fin 5,
    Y c y x * A (ix2 q ⟨c.val * 25 + y.val * 5 + x.val, by omega⟩)) + β (ix1 q)) 0

/-- The second dense layer. -/
def dense2 (Y : Fin 120 → EReal) (A : Arr ⟨2, ![84, 120]⟩) (β : Arr ⟨1, ![84]⟩) (q : Fin 84) : EReal :=
  max ((∑ k : Fin 120, Y k * A (ix2 q k)) + β (ix1 q)) 0

/-- The gate's logit for expert `e`. -/
def logit (Y : Fin 84 → EReal) (A : Arr ⟨2, ![84, 2]⟩) (e : Fin 2) : EReal := ∑ k : Fin 84, Y k * A (ix2 k e)

/-- Expert `e`'s output at `d`. -/
def expert (Y : Fin 84 → EReal) (A : Arr ⟨3, ![2, 84, 84]⟩) (β : Arr ⟨2, ![2, 84]⟩) (e : Fin 2) (d : Fin 84) : EReal :=
  (∑ k : Fin 84, Y k * A (ix3 e d k)) + β (ix2 e d)

/-- The unnormalized weight of a logit `l` beside the other logit `l'`. -/
def weight (l l' : EReal) : EReal := Ideal.exp (l - max l l')

/-- The softmax weight of a logit `l` beside the other logit `l'`. -/
def gate (l l' : EReal) : EReal := Ideal.div (weight l l') (weight l l' + weight l' l)

/-- The constant added to the sum of the gates: the single-precision 1e-9. -/
def eps : EReal := Ideal.ofBits .f32 0x3089705F#32

/-- The sum of the two gates and the constant. -/
def total (l l' : EReal) : EReal := (gate l l' + gate l' l) + eps

/-- The mixture of the two experts' values by the gates, divided by the gates' total. -/
def mix (l l' e e' : EReal) : EReal := Ideal.div (gate l l' * e + gate l' l * e') (total l l')

/-- The last dense layer. -/
def dense4 (Y : Fin 84 → EReal) (A : Arr ⟨2, ![10, 84]⟩) (β : Arr ⟨1, ![10]⟩) (q : Fin 10) : EReal :=
  (∑ k : Fin 84, Y k * A (ix2 q k)) + β (ix1 q)

/-- The hidden layer of an image after the two convolution rounds and the two dense layers. -/
def hidden (x : Arr ⟨4, ![4096, 3, 32, 32]⟩) (k1 : Arr ⟨4, ![6, 3, 5, 5]⟩) (β1 : Arr ⟨1, ![6]⟩)
    (k2 : Arr ⟨4, ![16, 6, 5, 5]⟩) (β2 : Arr ⟨1, ![16]⟩) (a1 : Arr ⟨2, ![120, 400]⟩) (γ1 : Arr ⟨1, ![120]⟩)
    (a2 : Arr ⟨2, ![84, 120]⟩) (γ2 : Arr ⟨1, ![84]⟩) (n : Fin 4096) : Fin 84 → EReal :=
  dense2 (dense1 (stage2 (stage1 (fun c i j => x (ix4 n c i j)) (fun o c y z => k1 (ix4 o c y z)) (fun o => β1 (ix1 o)))
    (fun o c y z => k2 (ix4 o c y z)) (fun o => β2 (ix1 o))) a1 γ1) a2 γ2

/-- What follows the hidden layer: the gated mixture of the experts and the last dense layer. -/
def head (Y : Fin 84 → EReal) (g : Arr ⟨2, ![84, 2]⟩) (w : Arr ⟨3, ![2, 84, 84]⟩) (ω : Arr ⟨2, ![2, 84]⟩)
    (a4 : Arr ⟨2, ![10, 84]⟩) (γ4 : Arr ⟨1, ![10]⟩) (q : Fin 10) : EReal :=
  dense4 (fun d => mix (logit Y g 0) (logit Y g 1) (expert Y w ω 0 d) (expert Y w ω 1 d)) a4 γ4 q

/-- The network's output array. -/
def net (x : Arr ⟨4, ![4096, 3, 32, 32]⟩) (k1 : Arr ⟨4, ![6, 3, 5, 5]⟩) (β1 : Arr ⟨1, ![6]⟩)
    (k2 : Arr ⟨4, ![16, 6, 5, 5]⟩) (β2 : Arr ⟨1, ![16]⟩) (a1 : Arr ⟨2, ![120, 400]⟩) (γ1 : Arr ⟨1, ![120]⟩)
    (a2 : Arr ⟨2, ![84, 120]⟩) (γ2 : Arr ⟨1, ![84]⟩) (g : Arr ⟨2, ![84, 2]⟩) (w : Arr ⟨3, ![2, 84, 84]⟩)
    (ω : Arr ⟨2, ![2, 84]⟩) (a4 : Arr ⟨2, ![10, 84]⟩) (γ4 : Arr ⟨1, ![10]⟩) : Arr ⟨2, ![4096, 10]⟩ :=
  fun y => head (hidden x k1 β1 k2 β2 a1 γ1 a2 γ2 (y 0)) g w ω a4 γ4 (y 1)

end Cert.Net

end
-- ==== Proof.Algebra.lean ====
/- Facts about sums and maxima of extended reals that the two programs' forms of the network differ by. -/
module

public import proofs.«01_k».proof.Proof.Spec

@[expose] public section

noncomputable section

namespace Cert.Net

open Idealize.ShloMosaic

/-- A row of a banded matrix: entry `i` of column `j` is `K (i - j)` within the band and zero outside it. -/
def band {W w : ℕ} (K : Fin 5 → EReal) (i : Fin W) (j : Fin w) : EReal :=
  if h : j.val ≤ i.val ∧ i.val < j.val + 5 then K ⟨i.val - j.val, by omega⟩ else 0

/-- The banded matrix's entry is the sum of the kernel's five values against the five shifted diagonals. -/
theorem sum_diag {W w : ℕ} (K : Fin 5 → EReal) (i : Fin W) (j : Fin w) :
    ∑ d : Fin 5, (if i.val = j.val + d.val then (1 : EReal) else 0) * K d = band K i j := by
  unfold band
  split_ifs with h
  · rw [Finset.sum_eq_single (⟨i.val - j.val, by omega⟩ : Fin 5)]
    · rw [if_pos (by simp only; omega), one_mul]
    · intro d _ hd
      rw [if_neg, zero_mul]
      intro e
      exact hd (Fin.ext (by simp only; omega))
    · intro e; exact absurd (Finset.mem_univ _) e
  · refine Finset.sum_eq_zero fun d _ => ?_
    rw [if_neg (by omega), zero_mul]

/-- A row times a column of a banded matrix is the five-term sum under the band. -/
theorem sum_band {W w : ℕ} (hW : w + 4 = W) (X : Fin W → EReal) (K : Fin 5 → EReal) (j : Fin w) :
    ∑ i : Fin W, X i * band K i j = ∑ x : Fin 5, X ⟨j.val + x.val, by omega⟩ * K x := by
  symm
  refine Finset.sum_of_injOn (fun x : Fin 5 => (⟨j.val + x.val, by omega⟩ : Fin W)) ?_ ?_ ?_ ?_
  · intro x _ y _ h
    have := congrArg Fin.val h
    exact Fin.ext (by simp only at this; omega)
  · intro x _; exact Finset.mem_univ _
  · intro i _ hi
    unfold band
    rw [dif_neg, mul_zero]
    intro h
    exact hi ⟨⟨i.val - j.val, by omega⟩, Finset.mem_coe.2 (Finset.mem_univ _), Fin.ext (by simp only; omega)⟩
  · intro x _
    unfold band
    rw [dif_pos (by simp only; omega)]
    exact congrArg (_ * K ·) (Fin.ext (by simp only; omega))

/-- Summed over kernel rows and planes, the products with banded matrices are the correlation. -/
theorem sum_bands {C H W h w : ℕ} (hH : h + 4 = H) (hW : w + 4 = W) (X : Fin C → Fin H → Fin W → EReal)
    (K : Fin C → Fin 5 → Fin 5 → EReal) (i : Fin h) (j : Fin w) :
    ∑ y : Fin 5, ∑ c : Fin C, ∑ x : Fin W, X c ⟨i.val + y.val, by omega⟩ x * band (K c y) x j
      = conv hH hW X K i j := by
  unfold conv
  rw [Finset.sum_comm]
  refine Finset.sum_congr rfl fun c _ => Finset.sum_congr rfl fun y _ => ?_
  exact sum_band hW (fun x => X c ⟨i.val + y.val, by omega⟩ x) (K c y) j

/-- Against a column with a single one, a sum keeps one term. -/
theorem sum_pick {n : ℕ} (f : Fin n → EReal) (q : Fin n) :
    ∑ k : Fin n, f k * (if k.val = q.val then (1 : EReal) else 0) = f q := by
  rw [Finset.sum_eq_single q]
  · rw [if_pos rfl, mul_one]
  · intro k _ hk
    rw [if_neg (fun e => hk (Fin.ext e)), mul_zero]
  · intro e; exact absurd (Finset.mem_univ _) e

/-- The fold of the maximum over two values, from the bottom. -/
theorem fold_max_two (f : Fin 2 → EReal) : Finset.univ.fold max (⊥ : EReal) f = max (f 0) (f 1) := by
  rw [show (Finset.univ : Finset (Fin 2)) = {0, 1} from rfl, Finset.fold_insert (by decide), Finset.fold_singleton]
  rw [max_eq_left (bot_le : (⊥ : EReal) ≤ f 1)]

/-- Adding a constant commutes with the maximum. -/
theorem max_add (a b c : EReal) : max a b + c = max (a + c) (b + c) := by
  rcases le_total a b with h | h
  · rw [max_eq_right h, max_eq_right (add_le_add_left h c)]
  · rw [max_eq_left h, max_eq_left (add_le_add_left h c)]

/-- Bias and rectifier after the 2 × 2 maximum, taken rows first, are the 2 × 2 maximum of the biased and rectified plane. -/
theorem pool_bias {H W h w : ℕ} (hH : h * 2 = H) (hW : w * 2 = W) (Z : Fin H → Fin W → EReal) (β : EReal) (a : Fin h)
    (b : Fin w) :
    max (max (max (Z ⟨a.val * 2, by omega⟩ ⟨b.val * 2, by omega⟩) (Z ⟨a.val * 2 + 1, by omega⟩ ⟨b.val * 2, by omega⟩))
        (max (Z ⟨a.val * 2, by omega⟩ ⟨b.val * 2 + 1, by omega⟩) (Z ⟨a.val * 2 + 1, by omega⟩ ⟨b.val * 2 + 1, by omega⟩)) + β) 0
      = pool hH hW (fun i j => max (Z i j + β) 0) a b := by
  unfold pool
  simp only [max_add]
  generalize Z _ _ + β = p
  generalize Z _ _ + β = q
  generalize Z _ _ + β = r
  generalize Z _ _ + β = s
  have two (x y : EReal) : max (max x 0) (max y 0) = max (max x y) 0 := by
    rw [max_max_max_comm, max_self]
  rw [two, two, two]
  refine congrArg (max · 0) ?_
  ac_rfl

end Cert.Net

end
-- ==== Proof.KHost.lean ====
/- What the kernel's host operations hand to the kernel's call: each operand as a function of the arguments, and each
   operand at an entry. -/
module

public import proofs.«01_k».proof.Proof.Gen.KernelIdeal.Value
public import proofs.«01_k».proof.Proof.Algebra
public import Idealize.ShloMosaic.Lib.Pointwise
public import Idealize.ShloMosaic.Lib.Claim

@[expose] public section

set_option maxRecDepth 16384

noncomputable section

namespace Cert.Ker
open Idealize.ShloMosaic Idealize.ShloMosaic.TcCoe Idealize.SL.Sem
open Cert.KernelIdeal Cert.KernelIdeal.Gen Cert.Net

/-- The images, image row first. -/
def hostX (x : FVec Ideal S4096x3x32x32 .f32) : FVec Ideal S32x4096x96 .bf16 :=
  truncf .bf16 (shapeCast S32x4096x96 (transpose S32x4096x3x32 [2, 0, 1, 3] x transposes_S4096x3x32x32_S32x4096x3x32_2_0_1_3)
    shapeCasts_S32x4096x3x32_S32x4096x96) bitsLt_bf16_f32

/-- The first convolution's banded matrix from the shifted diagonals `e`. -/
def hostW1 (e : FVec Ideal S5x32x28 .f32) (k : FVec Ideal S6x3x5x5 .f32) : FVec Ideal S480x168 .bf16 :=
  truncf .bf16 (shapeCast S480x168 (transpose S5x3x32x6x28 [4, 3, 0, 2, 1]
    (Host.dotGeneral dot_S5x32x28_S6x3x5x5_S32x28x6x3x5_0_3_12_012_n_n none e k)
    transposes_S32x28x6x3x5_S5x3x32x6x28_4_3_0_2_1) shapeCasts_S5x3x32x6x28_S480x168) bitsLt_bf16_f32

/-- The second convolution's banded matrix from the shifted diagonals `e`. -/
def hostW2 (e : FVec Ideal S5x14x10 .f32) (k : FVec Ideal S16x6x5x5 .f32) : FVec Ideal S420x160 .bf16 :=
  truncf .bf16 (shapeCast S420x160 (transpose S5x6x14x16x10 [4, 3, 0, 2, 1]
    (Host.dotGeneral dot_S5x14x10_S16x6x5x5_S14x10x16x6x5_0_3_12_012_n_n none e k)
    transposes_S14x10x16x6x5_S5x6x14x16x10_4_3_0_2_1) shapeCasts_S5x6x14x16x10_S420x160) bitsLt_bf16_f32

/-- The first convolution's bias, repeated along a row. -/
def hostB1 (b : FVec Ideal S6 .f32) : FVec Ideal S1x168 .f32 :=
  shapeCast S1x168 (shapeCast S168 (broadcastInDim S6x28 ![0] bcast_S6_S6x28_0 b) shapeCasts_S6x28_S168) shapeCasts_S168_S1x168

/-- The second convolution's bias, repeated along a row. -/
def hostB2 (b : FVec Ideal S16 .f32) : FVec Ideal S1x160 .f32 :=
  shapeCast S1x160 (shapeCast S160 (broadcastInDim S16x10 ![0] bcast_S16_S16x10_0 b) shapeCasts_S16x10_S160) shapeCasts_S160_S1x160

/-- The first dense layer's matrix, its columns reordered. -/
def hostA1 (a : FVec Ideal S120x400 .f32) : FVec Ideal S400x120 .bf16 :=
  truncf .bf16 (shapeCast S400x120 (transpose S5x16x5x120 [2, 1, 3, 0] (shapeCast S120x16x5x5 a shapeCasts_S120x400_S120x16x5x5)
    transposes_S120x16x5x5_S5x16x5x120_2_1_3_0) shapeCasts_S5x16x5x120_S400x120) bitsLt_bf16_f32

/-- The experts' matrices, each transposed. -/
def hostE (a : FVec Ideal S2x84x84 .f32) : FVec Ideal S2x84x84 .bf16 :=
  truncf .bf16 (transpose S2x84x84 [0, 2, 1] a transposes_S2x84x84_S2x84x84_0_2_1) bitsLt_bf16_f32

/-- The second dense layer's matrix, transposed. -/
def hostA2 (a : FVec Ideal S84x120 .f32) : FVec Ideal S120x84 .bf16 :=
  truncf .bf16 (transpose S120x84 [1, 0] a transposes_S84x120_S120x84_1_0) bitsLt_bf16_f32

/-- The last dense layer's matrix, transposed. -/
def hostA4 (a : FVec Ideal S10x84 .f32) : FVec Ideal S84x10 .bf16 :=
  truncf .bf16 (transpose S84x10 [1, 0] a transposes_S10x84_S84x10_1_0) bitsLt_bf16_f32

theorem hostX_any (x : FVec Ideal S4096x3x32x32 .f32) (i : Fin 32) (n : Fin 4096) (u : Fin 96) :
    hostX x (ix3 i n u) = x (ix4 n ⟨u.val / 32, by omega⟩ i ⟨u.val % 32, by omega⟩) := by
  pointwise [hostX]

theorem hostW1_any (e : FVec Ideal S5x32x28 .f32) (k : FVec Ideal S6x3x5x5 .f32) (p : Fin 480) (u : Fin 168) :
    hostW1 e k (ix2 p u) = ∑ d : Fin 5, e (ix3 d ⟨p.val % 32, by omega⟩ ⟨u.val % 28, by omega⟩)
      * k (ix4 ⟨u.val / 28, by omega⟩ ⟨p.val / 32 % 3, by omega⟩ ⟨p.val / 96, by omega⟩ d) := by
  pointwise [hostW1]

theorem hostW2_any (e : FVec Ideal S5x14x10 .f32) (k : FVec Ideal S16x6x5x5 .f32) (p : Fin 420) (u : Fin 160) :
    hostW2 e k (ix2 p u) = ∑ d : Fin 5, e (ix3 d ⟨p.val % 14, by omega⟩ ⟨u.val % 10, by omega⟩)
      * k (ix4 ⟨u.val / 10, by omega⟩ ⟨p.val / 14 % 6, by omega⟩ ⟨p.val / 84, by omega⟩ d) := by
  pointwise [hostW2]

theorem hostB1_any (b : FVec Ideal S6 .f32) (u : Fin 168) : hostB1 b (ix2 0 u) = b (ix1 ⟨u.val / 28, by omega⟩) := by
  pointwise [hostB1]

theorem hostB2_any (b : FVec Ideal S16 .f32) (u : Fin 160) : hostB2 b (ix2 0 u) = b (ix1 ⟨u.val / 10, by omega⟩) := by
  pointwise [hostB2]

theorem hostA1_any (a : FVec Ideal S120x400 .f32) (p : Fin 400) (q : Fin 120) :
    hostA1 a (ix2 p q) = a (ix2 q ⟨p.val / 5 % 16 * 25 + p.val / 80 * 5 + p.val % 5, by omega⟩) := by
  pointwise [hostA1]

theorem hostE_at (a : FVec Ideal S2x84x84 .f32) (e : Fin 2) (k d : Fin 84) : hostE a (ix3 e k d) = a (ix3 e d k) := by
  pointwise [hostE]

theorem hostA2_at (a : FVec Ideal S84x120 .f32) (k : Fin 120) (q : Fin 84) : hostA2 a (ix2 k q) = a (ix2 q k) := by
  pointwise [hostA2]

theorem hostA4_at (a : FVec Ideal S10x84 .f32) (k : Fin 84) (q : Fin 10) : hostA4 a (ix2 k q) = a (ix2 q k) := by
  pointwise [hostA4]

variable (m : (ℓ : Loc nD τ sig) → Buf (Elt Ideal) ℓ) (c : Dev nD)

/-- The kernel's argument read as an array. -/
theorem V_x : V m c main_call0_v2 = hostX (m ((c : Thread nD τ).loc main_arg0)) := by entry_read; rfl

theorem V_w1 : V m c main_call0_v6 = hostW1 (fun i => FloatOps.ofBits .f32 (lit0 (S5x32x28.rowMajor i)))
    (m ((c : Thread nD τ).loc main_arg1)) := by entry_read; rfl

theorem V_w2 : V m c main_call0_v10 = hostW2 (fun i => FloatOps.ofBits .f32 (lit1 (S5x14x10.rowMajor i)))
    (m ((c : Thread nD τ).loc main_arg3)) := by entry_read; rfl

theorem V_b1 : V m c main_call0_v13 = hostB1 (m ((c : Thread nD τ).loc main_arg2)) := by entry_read; rfl

theorem V_b2 : V m c main_call0_v16 = hostB2 (m ((c : Thread nD τ).loc main_arg4)) := by entry_read; rfl

theorem V_s1 : V m c main_call0_cst_1 = (show FVec Ideal S168x84 .bf16 from fun i => FloatOps.ofBits .bf16 (lit2 (S168x84.rowMajor i))) := by entry_read; rfl

theorem V_s2 : V m c main_call0_cst_2 = (show FVec Ideal S160x80 .bf16 from fun i => FloatOps.ofBits .bf16 (lit3 (S160x80.rowMajor i))) := by entry_read; rfl

theorem V_a1 : V m c main_call0_v20 = hostA1 (m ((c : Thread nD τ).loc main_arg5)) := by entry_read; rfl

theorem V_e : V m c main_call0_v22 = hostE (m ((c : Thread nD τ).loc main_arg10)) := by entry_read; rfl

theorem V_a2 : V m c main_call0_v25 = hostA2 (m ((c : Thread nD τ).loc main_arg7)) := by entry_read; rfl

theorem V_a4 : V m c main_call0_v29 = hostA4 (m ((c : Thread nD τ).loc main_arg12)) := by entry_read; rfl

theorem V_g : V m c main_call0_v27 = truncf (F := Ideal) .bf16 (show FVec Ideal S84x2 .f32 from m ((c : Thread nD τ).loc main_arg9)) bitsLt_bf16_f32 := by
  entry_read; rfl

theorem V_c1 : V m c main_call0_v23 = shapeCast S1x120 (show FVec Ideal S120 .f32 from m ((c : Thread nD τ).loc main_arg6)) shapeCasts_S120_S1x120 := by
  entry_read; rfl

theorem V_c2 : V m c main_call0_v26 = shapeCast S1x84 (show FVec Ideal S84 .f32 from m ((c : Thread nD τ).loc main_arg8)) shapeCasts_S84_S1x84 := by
  entry_read; rfl

theorem V_c4 : V m c main_call0_v30 = shapeCast S1x10 (show FVec Ideal S10 .f32 from m ((c : Thread nD τ).loc main_arg13)) shapeCasts_S10_S1x10 := by
  entry_read; rfl

end Cert.Ker
end
-- ==== Proof.Lits.lean ====
/- The kernel's four constant arrays, entry by entry: the five shifted diagonals of the two banded matrices and the
   two matrices that keep every second column. -/
module

public import proofs.«01_k».proof.KernelIdeal
public import proofs.«01_k».proof.Proof.Spec

@[expose] public section

set_option maxRecDepth 16384

noncomputable section

namespace Cert.Ker
open Idealize.ShloMosaic Idealize.ShloMosaic.TcCoe
open Cert.KernelIdeal

/-- The first constant's words: one on the shifted diagonals, zero elsewhere, at each place in row-major order. -/
theorem lit0_word : ∀ i : Fin 4480,
    lit0t i.val = if i.val / 28 % 32 = i.val % 28 + i.val / 896 then 0x3F800000#32 else 0x00000000#32 := by
  decide +kernel

/-- The second constant's words. -/
theorem lit1_word : ∀ i : Fin 700,
    lit1t i.val = if i.val / 10 % 14 = i.val % 10 + i.val / 140 then 0x3F800000#32 else 0x00000000#32 := by
  decide +kernel

/-- The third constant's words: one where the row is twice the column within its group of 28, zero elsewhere. -/
theorem lit2_word : ∀ i : Fin 14112,
    lit2t i.val = if i.val / 84 = i.val % 84 / 14 * 28 + i.val % 84 % 14 * 2 then 0x3F80#16 else 0x0000#16 := by
  decide +kernel

/-- The fourth constant's words. -/
theorem lit3_word : ∀ i : Fin 12800,
    lit3t i.val = if i.val / 80 = i.val % 80 / 5 * 10 + i.val % 80 % 5 * 2 then 0x3F80#16 else 0x0000#16 := by
  decide +kernel

end Cert.Ker
end
-- ==== Proof.KConst.lean ====
/- The kernel's operands at the entries the two rounds read: the banded matrices, the column pickers, the biases and the
   reordered dense matrix. -/
module

public import proofs.«01_k».proof.Proof.KHost
public import proofs.«01_k».proof.Proof.Lits

@[expose] public section

set_option maxRecDepth 16384

noncomputable section

namespace Cert.Ker
open Idealize.ShloMosaic Idealize.ShloMosaic.TcCoe Idealize.SL.Sem
open Cert.KernelIdeal Cert.KernelIdeal.Gen Cert.Net

/-- The first constant: five shifted diagonals. -/
def diag1 : FVec Ideal S5x32x28 .f32 := fun i => FloatOps.ofBits .f32 (lit0 (S5x32x28.rowMajor i))
/-- The second constant: five shifted diagonals. -/
def diag2 : FVec Ideal S5x14x10 .f32 := fun i => FloatOps.ofBits .f32 (lit1 (S5x14x10.rowMajor i))
/-- The third constant: the first round's column picker. -/
def pick1 : FVec Ideal S168x84 .bf16 := fun i => FloatOps.ofBits .bf16 (lit2 (S168x84.rowMajor i))
/-- The fourth constant: the second round's column picker. -/
def pick2 : FVec Ideal S160x80 .bf16 := fun i => FloatOps.ofBits .bf16 (lit3 (S160x80.rowMajor i))

/-- The single-precision words of one and zero, chosen by a condition. -/
theorem word32 (p : Prop) [Decidable p] :
    Ideal.ofBits .f32 (if p then 0x3F800000#32 else 0x00000000#32) = if p then (1 : EReal) else 0 := by
  split_ifs <;> pointwise

/-- The half-width words of one and zero, chosen by a condition. -/
theorem word16 (p : Prop) [Decidable p] :
    Ideal.ofBits .bf16 (if p then 0x3F80#16 else 0x0000#16) = if p then (1 : EReal) else 0 := by
  split_ifs <;> pointwise

theorem diag1_at (d : Fin 5) (i : Fin 32) (j : Fin 28) :
    diag1 (ix3 d i j) = if i.val = j.val + d.val then (1 : EReal) else 0 := by
  have h : (S5x32x28.rowMajor (ix3 d i j)).val = (d.val * 32 + i.val) * 28 + j.val := Shape.rowMajor_val_three _
  refine (congrArg (Ideal.ofBits .f32) (lit0_word (S5x32x28.rowMajor (ix3 d i j)))).trans ((word32 _).trans ?_)
  refine if_congr ?_ rfl rfl
  have h1 : ((d.val * 32 + i.val) * 28 + j.val) / 28 % 32 = i.val := by omega
  have h2 : ((d.val * 32 + i.val) * 28 + j.val) % 28 = j.val := by omega
  have h3 : ((d.val * 32 + i.val) * 28 + j.val) / 896 = d.val := by omega
  rw [h, h1, h2, h3]

theorem diag2_at (d : Fin 5) (i : Fin 14) (j : Fin 10) :
    diag2 (ix3 d i j) = if i.val = j.val + d.val then (1 : EReal) else 0 := by
  have h : (S5x14x10.rowMajor (ix3 d i j)).val = (d.val * 14 + i.val) * 10 + j.val := Shape.rowMajor_val_three _
  refine (congrArg (Ideal.ofBits .f32) (lit1_word (S5x14x10.rowMajor (ix3 d i j)))).trans ((word32 _).trans ?_)
  refine if_congr ?_ rfl rfl
  have h1 : ((d.val * 14 + i.val) * 10 + j.val) / 10 % 14 = i.val := by omega
  have h2 : ((d.val * 14 + i.val) * 10 + j.val) % 10 = j.val := by omega
  have h3 : ((d.val * 14 + i.val) * 10 + j.val) / 140 = d.val := by omega
  rw [h, h1, h2, h3]

theorem pick1_at (k : Fin 168) (u : Fin 84) :
    pick1 (ix2 k u) = if k.val = u.val / 14 * 28 + u.val % 14 * 2 then (1 : EReal) else 0 := by
  have h : (S168x84.rowMajor (ix2 k u)).val = k.val * 84 + u.val := Shape.rowMajor_val_two _
  refine (congrArg (Ideal.ofBits .bf16) (lit2_word (S168x84.rowMajor (ix2 k u)))).trans ((word16 _).trans ?_)
  refine if_congr ?_ rfl rfl
  rw [h]
  omega

theorem pick2_at (k : Fin 160) (u : Fin 80) :
    pick2 (ix2 k u) = if k.val = u.val / 5 * 10 + u.val % 5 * 2 then (1 : EReal) else 0 := by
  have h : (S160x80.rowMajor (ix2 k u)).val = k.val * 80 + u.val := Shape.rowMajor_val_two _
  refine (congrArg (Ideal.ofBits .bf16) (lit3_word (S160x80.rowMajor (ix2 k u)))).trans ((word16 _).trans ?_)
  refine if_congr ?_ rfl rfl
  rw [h]
  omega

/-- The first banded matrix's entry. -/
theorem hostW1_at (k : FVec Ideal S6x3x5x5 .f32) (y : Fin 5) (c : Fin 3) (i : Fin 32) (o : Fin 6) (j : Fin 28) :
    hostW1 diag1 k (ix2 ⟨y.val * 96 + (c.val * 32 + i.val), by omega⟩ ⟨o.val * 28 + j.val, by omega⟩)
      = band (fun d => k (ix4 o c y d)) i j := by
  rw [hostW1_any, ← sum_diag]
  refine Finset.sum_congr rfl fun d _ => congrArg₂ (· * ·) ?_ (congrArg k ?_)
  · rw [diag1_at]
    exact if_congr (by simp only; omega) rfl rfl
  · refine (ix4_inj ..).2 ⟨Fin.ext ?_, Fin.ext ?_, Fin.ext ?_, rfl⟩ <;> simp only <;> omega

/-- The second banded matrix's entry. -/
theorem hostW2_at (k : FVec Ideal S16x6x5x5 .f32) (y : Fin 5) (c : Fin 6) (i : Fin 14) (o : Fin 16) (j : Fin 10) :
    hostW2 diag2 k (ix2 ⟨y.val * 84 + (c.val * 14 + i.val), by omega⟩ ⟨o.val * 10 + j.val, by omega⟩)
      = band (fun d => k (ix4 o c y d)) i j := by
  rw [hostW2_any, ← sum_diag]
  refine Finset.sum_congr rfl fun d _ => congrArg₂ (· * ·) ?_ (congrArg k ?_)
  · rw [diag2_at]
    exact if_congr (by simp only; omega) rfl rfl
  · refine (ix4_inj ..).2 ⟨Fin.ext ?_, Fin.ext ?_, Fin.ext ?_, rfl⟩ <;> simp only <;> omega

theorem hostX_at (x : FVec Ideal S4096x3x32x32 .f32) (i : Fin 32) (n : Fin 4096) (c : Fin 3) (j : Fin 32) :
    hostX x (ix3 i n ⟨c.val * 32 + j.val, by omega⟩) = x (ix4 n c i j) := by
  refine (hostX_any x _ _ _).trans (congrArg x ((ix4_inj ..).2 ⟨rfl, Fin.ext ?_, rfl, Fin.ext ?_⟩)) <;> simp only <;> omega

theorem hostB1_at (b : FVec Ideal S6 .f32) (o : Fin 6) (j : Fin 28) :
    hostB1 b (ix2 0 ⟨o.val * 28 + j.val, by omega⟩) = b (ix1 o) := by
  refine (hostB1_any b _).trans (congrArg (fun q => b (ix1 q)) (Fin.ext ?_)); simp only; omega

theorem hostB2_at (b : FVec Ideal S16 .f32) (o : Fin 16) (j : Fin 10) :
    hostB2 b (ix2 0 ⟨o.val * 10 + j.val, by omega⟩) = b (ix1 o) := by
  refine (hostB2_any b _).trans (congrArg (fun q => b (ix1 q)) (Fin.ext ?_)); simp only; omega

theorem hostA1_at (a : FVec Ideal S120x400 .f32) (y : Fin 5) (o : Fin 16) (j : Fin 5) (q : Fin 120) :
    hostA1 a (ix2 ⟨y.val * 80 + (o.val * 5 + j.val), by omega⟩ q) = a (ix2 q ⟨o.val * 25 + y.val * 5 + j.val, by omega⟩) := by
  refine (hostA1_any a _ _).trans (congrArg (fun p => a (ix2 q p)) (Fin.ext ?_)); simp only; omega

end Cert.Ker
end
-- ==== Proof.KDefs.lean ====
/- The kernel's body cut into short steps, each a named function of the arrays it reads. -/
module

public import proofs.«01_k».proof.Proof.Gen.KernelIdeal.Skeleton
public import Idealize.ShloMosaic.Lib.Pointwise

@[expose] public section

set_option maxRecDepth 16384

noncomputable section

namespace Cert.Ker
open Idealize.ShloMosaic Idealize.ShloMosaic.TcCoe Idealize.SL.Sem
open Cert.KernelIdeal Cert.KernelIdeal.Gen

/-- The five shifted bands of image rows beside each other. -/
def rows1 (v1 : FVec Ideal S32x1024x96 .bf16) : FVec Ideal S28672x480 .bf16 :=
  concatenate S28672x480 1
    [⟨S28672x96, shapeCast S28672x96 (extractStridedSlice S28x1024x96 ![0, 0, 0] v1 slices_S32x1024x96_o0_0_0_S28x1024x96) shapeCasts_S28x1024x96_S28672x96⟩,
     ⟨S28672x96, shapeCast S28672x96 (extractStridedSlice S28x1024x96 ![1, 0, 0] v1 slices_S32x1024x96_o1_0_0_S28x1024x96) shapeCasts_S28x1024x96_S28672x96⟩,
     ⟨S28672x96, shapeCast S28672x96 (extractStridedSlice S28x1024x96 ![2, 0, 0] v1 slices_S32x1024x96_o2_0_0_S28x1024x96) shapeCasts_S28x1024x96_S28672x96⟩,
     ⟨S28672x96, shapeCast S28672x96 (extractStridedSlice S28x1024x96 ![3, 0, 0] v1 slices_S32x1024x96_o3_0_0_S28x1024x96) shapeCasts_S28x1024x96_S28672x96⟩,
     ⟨S28672x96, shapeCast S28672x96 (extractStridedSlice S28x1024x96 ![4, 0, 0] v1 slices_S32x1024x96_o4_0_0_S28x1024x96) shapeCasts_S28x1024x96_S28672x96⟩]
    concatenates_S28672x96_S28672x96_S28672x96_S28672x96_S28672x96_S28672x480_d1

/-- The first banded product. -/
def prod1 (v12 : FVec Ideal S28672x480 .bf16) (v14 : FVec Ideal S480x168 .bf16) : FVec Ideal S28672x168 .f32 :=
  matmul dot_S28672x480_S480x168_S28672x168_1_0_0_1_n_n none v12 v14 (constant S28672x168 .f32 0x00000000#32)

/-- The maximum of each pair of rows. -/
def pairs1 (v15 : FVec Ideal S28672x168 .f32) : FVec Ideal S14x1024x168 .f32 :=
  multiReduction .maximumf [1] S14x1024x168 (shapeCast S14x2x1024x168 v15 shapeCasts_S28672x168_S14x2x1024x168) 0xFF800000#32 reduces_S14x2x1024x168_S14x1024x168 (.inl rfl) rfl

/-- The maximum with the next column, the bias, the rectifier. -/
def cols1 (v17 : FVec Ideal S14x1024x168 .f32) (v22 : FVec Ideal S1x168 .f32) : FVec Ideal S14x1024x168 .bf16 :=
  truncf .bf16 (maximumf (addf (maximumf v17
      (concatenate S14x1024x168 2 [⟨S14x1024x167, extractStridedSlice S14x1024x167 ![0, 0, 1] v17 slices_S14x1024x168_o0_0_1_S14x1024x167⟩, ⟨S14x1024x1, extractStridedSlice S14x1024x1 ![0, 0, 0] v17 slices_S14x1024x168_o0_0_0_S14x1024x1⟩] concatenates_S14x1024x167_S14x1024x1_S14x1024x168_d2))
      (broadcastTo S14x1024x168 (shapeCast S1x1x168 (shapeCast S1x168 v22 shapeCasts_S1x168_S1x168) shapeCasts_S1x168_S1x1x168) broadcasts_S1x1x168_S14x1024x168))
    (broadcast S14x1024x168 (Scalar.ofBits .f32 0x00000000#32))) bitsLt_bf16_f32

/-- The product that keeps every second column. -/
def keep1 (v29 : FVec Ideal S14x1024x168 .bf16) (v31 : FVec Ideal S168x84 .bf16) : FVec Ideal S14x1024x84 .bf16 :=
  shapeCast S14x1024x84 (truncf .bf16 (matmul dot_S14336x168_S168x84_S14336x84_1_0_0_1_n_n none (shapeCast S14336x168 v29 shapeCasts_S14x1024x168_S14336x168) v31 (constant S14336x84 .f32 0x00000000#32)) bitsLt_bf16_f32) shapeCasts_S14336x84_S14x1024x84

/-- The five shifted bands of the first round's rows beside each other. -/
def rows2 (v34 : FVec Ideal S14x1024x84 .bf16) : FVec Ideal S10240x420 .bf16 :=
  concatenate S10240x420 1
    [⟨S10240x84, shapeCast S10240x84 (extractStridedSlice S10x1024x84 ![0, 0, 0] v34 slices_S14x1024x84_o0_0_0_S10x1024x84) shapeCasts_S10x1024x84_S10240x84⟩,
     ⟨S10240x84, shapeCast S10240x84 (extractStridedSlice S10x1024x84 ![1, 0, 0] v34 slices_S14x1024x84_o1_0_0_S10x1024x84) shapeCasts_S10x1024x84_S10240x84⟩,
     ⟨S10240x84, shapeCast S10240x84 (extractStridedSlice S10x1024x84 ![2, 0, 0] v34 slices_S14x1024x84_o2_0_0_S10x1024x84) shapeCasts_S10x1024x84_S10240x84⟩,
     ⟨S10240x84, shapeCast S10240x84 (extractStridedSlice S10x1024x84 ![3, 0, 0] v34 slices_S14x1024x84_o3_0_0_S10x1024x84) shapeCasts_S10x1024x84_S10240x84⟩,
     ⟨S10240x84, shapeCast S10240x84 (extractStridedSlice S10x1024x84 ![4, 0, 0] v34 slices_S14x1024x84_o4_0_0_S10x1024x84) shapeCasts_S10x1024x84_S10240x84⟩]
    concatenates_S10240x84_S10240x84_S10240x84_S10240x84_S10240x84_S10240x420_d1

/-- The first round is its steps in turn. -/
theorem pay2_eq (v0 : FVec Ideal S32x1024x96 .bf16) (v13 : FVec Ideal S480x168 .bf16) (v22 : FVec Ideal S1x168 .f32)
    (v31 : FVec Ideal S168x84 .bf16) :
    k0_pay2 (F := Ideal) v0 v13 v22 v31
      = rows2 (keep1 (cols1 (pairs1 (prod1 (rows1 (shapeCast S32x1024x96 v0 shapeCasts_S32x1024x96_S32x1024x96))
          (shapeCast S480x168 v13 shapeCasts_S480x168_S480x168))) v22) v31) := rfl

/-- The second banded product. -/
def prod2 (v45 : FVec Ideal S10240x420 .bf16) (v47 : FVec Ideal S420x160 .bf16) : FVec Ideal S10240x160 .f32 :=
  matmul dot_S10240x420_S420x160_S10240x160_1_0_0_1_n_n none v45 v47 (constant S10240x160 .f32 0x00000000#32)

/-- The maximum of each pair of rows. -/
def pairs2 (v48 : FVec Ideal S10240x160 .f32) : FVec Ideal S5x1024x160 .f32 :=
  multiReduction .maximumf [1] S5x1024x160 (shapeCast S5x2x1024x160 v48 shapeCasts_S10240x160_S5x2x1024x160) 0xFF800000#32 reduces_S5x2x1024x160_S5x1024x160 (.inl rfl) rfl

/-- The maximum with the next column, the bias, the rectifier. -/
def cols2 (v50 : FVec Ideal S5x1024x160 .f32) (v55 : FVec Ideal S1x160 .f32) : FVec Ideal S5x1024x160 .bf16 :=
  truncf .bf16 (maximumf (addf (maximumf v50
      (concatenate S5x1024x160 2 [⟨S5x1024x159, extractStridedSlice S5x1024x159 ![0, 0, 1] v50 slices_S5x1024x160_o0_0_1_S5x1024x159⟩, ⟨S5x1024x1, extractStridedSlice S5x1024x1 ![0, 0, 0] v50 slices_S5x1024x160_o0_0_0_S5x1024x1⟩] concatenates_S5x1024x159_S5x1024x1_S5x1024x160_d2))
      (broadcastTo S5x1024x160 (shapeCast S1x1x160 (shapeCast S1x160 v55 shapeCasts_S1x160_S1x160) shapeCasts_S1x160_S1x1x160) broadcasts_S1x1x160_S5x1024x160))
    (broadcast S5x1024x160 (Scalar.ofBits .f32 0x00000000#32))) bitsLt_bf16_f32

/-- The product that keeps every second column. -/
def keep2 (v62 : FVec Ideal S5x1024x160 .bf16) (v64 : FVec Ideal S160x80 .bf16) : FVec Ideal S5x1024x80 .bf16 :=
  shapeCast S5x1024x80 (truncf .bf16 (matmul dot_S5120x160_S160x80_S5120x80_1_0_0_1_n_n none (shapeCast S5120x160 v62 shapeCasts_S5x1024x160_S5120x160) v64 (constant S5120x80 .f32 0x00000000#32)) bitsLt_bf16_f32) shapeCasts_S5120x80_S5x1024x80

/-- The five rows of the second round's output beside each other. -/
def rows3 (v67 : FVec Ideal S5x1024x80 .bf16) : FVec Ideal S1024x400 .bf16 :=
  concatenate S1024x400 1
    [⟨S1024x80, shapeCast S1024x80 (extractStridedSlice S1x1024x80 ![0, 0, 0] v67 slices_S5x1024x80_o0_0_0_S1x1024x80) shapeCasts_S1x1024x80_S1024x80⟩,
     ⟨S1024x80, shapeCast S1024x80 (extractStridedSlice S1x1024x80 ![1, 0, 0] v67 slices_S5x1024x80_o1_0_0_S1x1024x80) shapeCasts_S1x1024x80_S1024x80⟩,
     ⟨S1024x80, shapeCast S1024x80 (extractStridedSlice S1x1024x80 ![2, 0, 0] v67 slices_S5x1024x80_o2_0_0_S1x1024x80) shapeCasts_S1x1024x80_S1024x80⟩,
     ⟨S1024x80, shapeCast S1024x80 (extractStridedSlice S1x1024x80 ![3, 0, 0] v67 slices_S5x1024x80_o3_0_0_S1x1024x80) shapeCasts_S1x1024x80_S1024x80⟩,
     ⟨S1024x80, shapeCast S1024x80 (extractStridedSlice S1x1024x80 ![4, 0, 0] v67 slices_S5x1024x80_o4_0_0_S1x1024x80) shapeCasts_S1x1024x80_S1024x80⟩]
    concatenates_S1024x80_S1024x80_S1024x80_S1024x80_S1024x80_S1024x400_d1

/-- The first dense layer. -/
def fc1 (v78 : FVec Ideal S1024x400 .bf16) (v79 : FVec Ideal S400x120 .bf16) (v82 : FVec Ideal S1x120 .f32) : FVec Ideal S1024x120 .bf16 :=
  truncf .bf16 (maximumf (addf (matmul dot_S1024x400_S400x120_S1024x120_1_0_0_1_n_n none v78 (shapeCast S400x120 v79 shapeCasts_S400x120_S400x120) (constant S1024x120 .f32 0x00000000#32))
    (broadcastTo S1024x120 (shapeCast S1x120 v82 shapeCasts_S1x120_S1x120) broadcasts_S1x120_S1024x120)) (broadcast S1024x120 (Scalar.ofBits .f32 0x00000000#32))) bitsLt_bf16_f32

/-- The second round and the first dense layer are their steps in turn. -/
theorem pay3_eq (v45 : FVec Ideal S10240x420 .bf16) (v46 : FVec Ideal S420x160 .bf16) (v55 : FVec Ideal S1x160 .f32)
    (v64 : FVec Ideal S160x80 .bf16) (v79 : FVec Ideal S400x120 .bf16) (v82 : FVec Ideal S1x120 .f32) :
    k0_pay3 (F := Ideal) v45 v46 v55 v64 v79 v82
      = fc1 (rows3 (keep2 (cols2 (pairs2 (prod2 v45 (shapeCast S420x160 v46 shapeCasts_S420x160_S420x160))) v55) v64)) v79 v82 := rfl

end Cert.Ker
end
-- ==== Proof.KHead.lean ====
/- The kernel's steps after the first dense layer, at an entry. -/
module

public import proofs.«01_k».proof.Proof.KDefs
public import proofs.«01_k».proof.Proof.Algebra

@[expose] public section

set_option maxRecDepth 16384

noncomputable section

namespace Cert.Ker
open Idealize.ShloMosaic Idealize.ShloMosaic.TcCoe Idealize.SL.Sem
open Cert.KernelIdeal Cert.KernelIdeal.Gen Cert.Net

/-- The second dense layer at an entry. -/
theorem pay4_at (v : FVec Ideal S1024x120 .bf16) (w : FVec Ideal S120x84 .bf16) (b : FVec Ideal S1x84 .f32)
    (H : Fin 120 → EReal) (A : Arr ⟨2, ![84, 120]⟩) (γ : Arr ⟨1, ![84]⟩) (r : Fin 1024)
    (hv : ∀ k : Fin 120, v (ix2 r k) = H k)
    (hw : ∀ (k : Fin 120) (q : Fin 84), w (ix2 k q) = A (ix2 q k))
    (hb : ∀ q : Fin 84, b (ix2 0 q) = γ (ix1 q)) (q : Fin 84) :
    k0_pay4 (F := Ideal) v w b (ix2 r q) = dense2 H A γ q := by
  pointwise [k0_pay4]
  simp only [hv, hw, hb]
  rfl

/-- The gates at an entry: the softmax of the two logits. -/
theorem pay5_at (v : FVec Ideal S1024x120 .bf16) (w : FVec Ideal S120x84 .bf16) (b : FVec Ideal S1x84 .f32)
    (g : FVec Ideal S84x2 .bf16) (Y : Fin 84 → EReal) (r : Fin 1024)
    (hY : ∀ q : Fin 84, k0_pay4 (F := Ideal) v w b (ix2 r q) = Y q) :
    k0_pay5 (F := Ideal) v w b g (ix2 r 0) = gate (logit Y g 0) (logit Y g 1)
      ∧ k0_pay5 (F := Ideal) v w b g (ix2 r 1) = gate (logit Y g 1) (logit Y g 0) := by
  constructor
  all_goals
    pointwise [k0_pay5]
    simp only [hY]
    rw [show Ideal.ofBits FTy.f32 0xFF800000#32 = ⊥ from rfl, fold_max_two, Fin.sum_univ_two]
    unfold gate weight logit
  · rw [max_comm (∑ k : Fin 84, Y k * g (ix2 k 1))]
  · rw [max_comm (∑ k : Fin 84, Y k * g (ix2 k 1)), add_comm]

/-- The gates' total at an entry. -/
theorem pay6_at (v : FVec Ideal S1024x120 .bf16) (w : FVec Ideal S120x84 .bf16) (b : FVec Ideal S1x84 .f32)
    (g : FVec Ideal S84x2 .bf16) (Y : Fin 84 → EReal) (r : Fin 1024)
    (hY : ∀ q : Fin 84, k0_pay4 (F := Ideal) v w b (ix2 r q) = Y q) :
    k0_pay6 (F := Ideal) v w b g (ix2 r 0) = total (logit Y g 0) (logit Y g 1) := by
  pointwise [k0_pay6]
  rw [Fin.sum_univ_two, (pay5_at v w b g Y r hY).1, (pay5_at v w b g Y r hY).2]
  rfl

/-- The first expert at an entry. -/
theorem pay7_at (v : FVec Ideal S1024x120 .bf16) (w : FVec Ideal S120x84 .bf16) (b : FVec Ideal S1x84 .f32)
    (u : FVec Ideal S1x84x84 .bf16) (z : FVec Ideal S1x84 .f32) (Y : Fin 84 → EReal) (r : Fin 1024)
    (hY : ∀ q : Fin 84, k0_pay4 (F := Ideal) v w b (ix2 r q) = Y q) (d : Fin 84) :
    k0_pay7 (F := Ideal) v w b u z (ix2 r d) = (∑ k : Fin 84, Y k * u (ix3 0 k d)) + z (ix2 0 d) := by
  pointwise [k0_pay7]
  simp only [hY]

/-- The second expert's product at an entry. -/
theorem pay8_at (v : FVec Ideal S1024x120 .bf16) (w : FVec Ideal S120x84 .bf16) (b : FVec Ideal S1x84 .f32)
    (u : FVec Ideal S1x84x84 .bf16) (Y : Fin 84 → EReal) (r : Fin 1024)
    (hY : ∀ q : Fin 84, k0_pay4 (F := Ideal) v w b (ix2 r q) = Y q) (d : Fin 84) :
    k0_pay8 (F := Ideal) v w b u (ix2 r d) = ∑ k : Fin 84, Y k * u (ix3 0 k d) := by
  pointwise [k0_pay8]
  simp only [hY]

/-- The mixture and the last dense layer at an entry. -/
theorem pay1_at (g : FVec Ideal S1024x2 .f32) (t : FVec Ideal S1024x1 .f32) (e0 e1 : FVec Ideal S1024x84 .f32)
    (z : FVec Ideal S1x84 .f32) (w : FVec Ideal S84x10 .bf16) (b : FVec Ideal S1x10 .f32) (r : Fin 1024) (q : Fin 10) :
    k0_pay1 (F := Ideal) g t e0 e1 z w b (ix2 r q)
      = (∑ d : Fin 84, Ideal.div (g (ix2 r 0) * e0 (ix2 r d) + g (ix2 r 1) * (e1 (ix2 r d) + z (ix2 0 d))) (t (ix2 r 0))
          * w (ix2 d q)) + b (ix2 0 q) := by
  pointwise [k0_pay1]

/-- From the first dense layer on, the kernel's row is the head of the network at that row's hidden layer. -/
theorem head_at (v : FVec Ideal S1024x120 .bf16) (w : FVec Ideal S120x84 .bf16) (b : FVec Ideal S1x84 .f32)
    (g : FVec Ideal S84x2 .bf16) (u0 u1 : FVec Ideal S1x84x84 .bf16) (z0 z1 : FVec Ideal S1x84 .f32)
    (w4 : FVec Ideal S84x10 .bf16) (b4 : FVec Ideal S1x10 .f32)
    (H : Fin 120 → EReal) (A : Arr ⟨2, ![84, 120]⟩) (γ : Arr ⟨1, ![84]⟩) (G : Arr ⟨2, ![84, 2]⟩)
    (U : Arr ⟨3, ![2, 84, 84]⟩) (Ω : Arr ⟨2, ![2, 84]⟩) (A4 : Arr ⟨2, ![10, 84]⟩) (γ4 : Arr ⟨1, ![10]⟩) (r : Fin 1024)
    (hv : ∀ k : Fin 120, v (ix2 r k) = H k)
    (hw : ∀ (k : Fin 120) (q : Fin 84), w (ix2 k q) = A (ix2 q k))
    (hb : ∀ q : Fin 84, b (ix2 0 q) = γ (ix1 q))
    (hg : ∀ (k : Fin 84) (e : Fin 2), g (ix2 k e) = G (ix2 k e))
    (hu0 : ∀ k d : Fin 84, u0 (ix3 0 k d) = U (ix3 0 d k)) (hu1 : ∀ k d : Fin 84, u1 (ix3 0 k d) = U (ix3 1 d k))
    (hz0 : ∀ d : Fin 84, z0 (ix2 0 d) = Ω (ix2 0 d)) (hz1 : ∀ d : Fin 84, z1 (ix2 0 d) = Ω (ix2 1 d))
    (hw4 : ∀ (k : Fin 84) (q : Fin 10), w4 (ix2 k q) = A4 (ix2 q k))
    (hb4 : ∀ q : Fin 10, b4 (ix2 0 q) = γ4 (ix1 q)) (q : Fin 10) :
    k0_pay1 (F := Ideal) (k0_pay5 v w b g) (k0_pay6 v w b g) (k0_pay7 v w b u0 z0) (k0_pay8 v w b u1) z1 w4 b4 (ix2 r q)
      = head (dense2 H A γ) G U Ω A4 γ4 q := by
  have hY := pay4_at v w b H A γ r hv hw hb
  have hl (e : Fin 2) : logit (dense2 H A γ) g e = logit (dense2 H A γ) G e :=
    Finset.sum_congr rfl fun k _ => congrArg (_ * ·) (hg k e)
  rw [pay1_at, (pay5_at v w b g _ r hY).1, (pay5_at v w b g _ r hY).2, pay6_at v w b g _ r hY, hb4, hl, hl]
  unfold head dense4 mix expert
  refine congrArg (· + _) (Finset.sum_congr rfl fun d _ => ?_)
  rw [pay7_at v w b u0 z0 _ r hY, pay8_at v w b u1 _ r hY, hw4, hz0, hz1]
  simp only [hu0, hu1]

end Cert.Ker
end
-- ==== Proof.KRound1.lean ====
/- The kernel's first round at an entry: the correlation, bias, rectifier and 2 × 2 maximum of one image. -/
module

public import proofs.«01_k».proof.Proof.KDefs
public import proofs.«01_k».proof.Proof.Algebra

@[expose] public section

set_option maxRecDepth 16384

noncomputable section

namespace Cert.Ker
open Idealize.ShloMosaic Idealize.ShloMosaic.TcCoe Idealize.SL.Sem
open Cert.KernelIdeal Cert.KernelIdeal.Gen Cert.Net

/-- The bands at any row and column: the row's image and the shifted image row. -/
theorem rows1_any (v : FVec Ideal S32x1024x96 .bf16) (p : Fin 28672) (q : Fin 480) :
    rows1 v (ix2 p q) = v (ix3 ⟨q.val / 96 + p.val / 1024, by omega⟩ ⟨p.val % 1024, by omega⟩ ⟨q.val % 96, by omega⟩) := by
  pointwise [rows1]
  split_ifs <;> refine congrArg v ((ix3_inj ..).2 ⟨Fin.ext ?_, rfl, Fin.ext ?_⟩) <;> simp only <;> omega

/-- Row `1024 a + r` of the five bands holds, in column `96 y + k`, image `r`'s row `a + y` at `k`. -/
theorem rows1_at (v : FVec Ideal S32x1024x96 .bf16) (a : Fin 28) (r : Fin 1024) (y : Fin 5) (k : Fin 96) :
    rows1 v (ix2 ⟨a.val * 1024 + r.val, by omega⟩ ⟨y.val * 96 + k.val, by omega⟩) = v (ix3 ⟨a.val + y.val, by omega⟩ r k) := by
  refine (rows1_any v _ _).trans (congrArg v ((ix3_inj ..).2 ⟨Fin.ext ?_, Fin.ext ?_, Fin.ext ?_⟩)) <;> simp only <;> omega

/-- The first banded product at an entry, as the sum over kernel rows, planes and row positions. -/
theorem prod1_at (v : FVec Ideal S32x1024x96 .bf16) (w : FVec Ideal S480x168 .bf16) (a : Fin 28) (r : Fin 1024) (q : Fin 168) :
    prod1 (rows1 v) w (ix2 ⟨a.val * 1024 + r.val, by omega⟩ q)
      = ∑ y : Fin 5, ∑ c : Fin 3, ∑ i : Fin 32, v (ix3 ⟨a.val + y.val, by omega⟩ r ⟨c.val * 32 + i.val, by omega⟩)
          * w (ix2 ⟨y.val * 96 + (c.val * 32 + i.val), by omega⟩ q) := by
  pointwise [prod1]
  rw [Fin.sum_univ_tiles 5 96 rfl]
  refine Finset.sum_congr rfl fun y _ => ?_
  rw [Fin.sum_univ_tiles 3 32 rfl]
  refine Finset.sum_congr rfl fun c _ => Finset.sum_congr rfl fun i _ => ?_
  exact congrArg (· * _) (rows1_at v a r y ⟨c.val * 32 + i.val, by omega⟩)

/-- The bands' product, of an image's planes and the banded weights, is the correlation. -/
theorem prod1_conv (v : FVec Ideal S32x1024x96 .bf16) (w : FVec Ideal S480x168 .bf16)
    (X : Fin 1024 → Fin 3 → Fin 32 → Fin 32 → EReal) (K : Fin 6 → Fin 3 → Fin 5 → Fin 5 → EReal)
    (hv : ∀ i r (c : Fin 3) (j : Fin 32), v (ix3 i r ⟨c.val * 32 + j.val, by omega⟩) = X r c i j)
    (hw : ∀ (y : Fin 5) (c : Fin 3) (i : Fin 32) (o : Fin 6) (j : Fin 28),
      w (ix2 ⟨y.val * 96 + (c.val * 32 + i.val), by omega⟩ ⟨o.val * 28 + j.val, by omega⟩) = band (K o c y) i j)
    (a : Fin 28) (r : Fin 1024) (o : Fin 6) (j : Fin 28) :
    prod1 (rows1 v) w (ix2 ⟨a.val * 1024 + r.val, by omega⟩ ⟨o.val * 28 + j.val, by omega⟩)
      = conv (h := 28) (w := 28) rfl rfl (X r) (K o) a j := by
  rw [prod1_at, ← sum_bands]
  refine Finset.sum_congr rfl fun y _ => Finset.sum_congr rfl fun c _ => Finset.sum_congr rfl fun i _ => ?_
  rw [hv, hw]

/-- The maximum of two rows at an entry. -/
theorem pairs1_at (v : FVec Ideal S28672x168 .f32) (a : Fin 14) (r : Fin 1024) (q : Fin 168) :
    pairs1 v (ix3 a r q) = max (v (ix2 ⟨(a.val * 2) * 1024 + r.val, by omega⟩ q))
      (v (ix2 ⟨(a.val * 2 + 1) * 1024 + r.val, by omega⟩ q)) := by
  pointwise [pairs1]
  rw [show Ideal.ofBits FTy.f32 0xFF800000#32 = ⊥ from rfl, fold_max_two]
  refine congrArg₂ max (congrArg v ((ix2_inj ..).2 ⟨Fin.ext ?_, rfl⟩)) (congrArg v ((ix2_inj ..).2 ⟨Fin.ext ?_, rfl⟩)) <;> simp <;> omega

/-- The maximum with the next column, biased and rectified, at an entry not in the last column. -/
theorem cols1_at (v : FVec Ideal S14x1024x168 .f32) (b : FVec Ideal S1x168 .f32) (a : Fin 14) (r : Fin 1024) (q : ℕ) (hq : q < 167) :
    cols1 v b (ix3 a r ⟨q, by omega⟩)
      = max (max (v (ix3 a r ⟨q, by omega⟩)) (v (ix3 a r ⟨q + 1, by omega⟩)) + b (ix2 0 ⟨q, by omega⟩)) 0 := by
  pointwise [cols1]
  rw [dif_pos hq]
  simp only [Nat.add_comm 1 q]

/-- The product with the keeping matrix at an entry. -/
theorem keep1_at (v : FVec Ideal S14x1024x168 .bf16) (s : FVec Ideal S168x84 .bf16)
    (hs : ∀ (k : Fin 168) (u : Fin 84), s (ix2 k u) = if k.val = u.val / 14 * 28 + u.val % 14 * 2 then (1 : EReal) else 0)
    (a : Fin 14) (r : Fin 1024) (o : Fin 6) (b : Fin 14) :
    keep1 v s (ix3 a r ⟨o.val * 14 + b.val, by omega⟩) = v (ix3 a r ⟨o.val * 28 + b.val * 2, by omega⟩) := by
  pointwise [keep1]
  simp only [hs]
  rw [← sum_pick (fun k => v (ix3 a r k)) ⟨o.val * 28 + b.val * 2, by omega⟩]
  refine Finset.sum_congr rfl fun k _ => ?_
  rw [show (o.val * 14 + b.val) / 14 = o.val by omega, show (o.val * 14 + b.val) % 14 = b.val by omega]

/-- The bands at any row and column: the row's image and the shifted image row. -/
theorem rows2_any (v : FVec Ideal S14x1024x84 .bf16) (p : Fin 10240) (q : Fin 420) :
    rows2 v (ix2 p q) = v (ix3 ⟨q.val / 84 + p.val / 1024, by omega⟩ ⟨p.val % 1024, by omega⟩ ⟨q.val % 84, by omega⟩) := by
  pointwise [rows2]
  split_ifs <;> refine congrArg v ((ix3_inj ..).2 ⟨Fin.ext ?_, rfl, Fin.ext ?_⟩) <;> simp only <;> omega

/-- Row `1024 a + r` of the second round's bands holds, in column `84 y + u`, image `r`'s row `a + y` at `u`. -/
theorem rows2_at (v : FVec Ideal S14x1024x84 .bf16) (a : Fin 10) (r : Fin 1024) (y : Fin 5) (k : Fin 84) :
    rows2 v (ix2 ⟨a.val * 1024 + r.val, by omega⟩ ⟨y.val * 84 + k.val, by omega⟩) = v (ix3 ⟨a.val + y.val, by omega⟩ r k) := by
  refine (rows2_any v _ _).trans (congrArg v ((ix3_inj ..).2 ⟨Fin.ext ?_, Fin.ext ?_, Fin.ext ?_⟩)) <;> simp only <;> omega

/-- The kernel's first round: the entry for image `r`, output row `a`, kernel row `y` and column `14 o + b` is the first
    round's output of that image for channel `o` at row `a + y` and column `b`. -/
theorem round1 (v : FVec Ideal S32x1024x96 .bf16) (w : FVec Ideal S480x168 .bf16) (b : FVec Ideal S1x168 .f32)
    (s : FVec Ideal S168x84 .bf16)
    (X : Fin 1024 → Fin 3 → Fin 32 → Fin 32 → EReal) (K : Fin 6 → Fin 3 → Fin 5 → Fin 5 → EReal) (β : Fin 6 → EReal)
    (hv : ∀ i r (c : Fin 3) (j : Fin 32), v (ix3 i r ⟨c.val * 32 + j.val, by omega⟩) = X r c i j)
    (hw : ∀ (y : Fin 5) (c : Fin 3) (i : Fin 32) (o : Fin 6) (j : Fin 28),
      w (ix2 ⟨y.val * 96 + (c.val * 32 + i.val), by omega⟩ ⟨o.val * 28 + j.val, by omega⟩) = band (K o c y) i j)
    (hb : ∀ (o : Fin 6) (j : Fin 28), b (ix2 0 ⟨o.val * 28 + j.val, by omega⟩) = β o)
    (hs : ∀ (k : Fin 168) (u : Fin 84), s (ix2 k u) = if k.val = u.val / 14 * 28 + u.val % 14 * 2 then (1 : EReal) else 0)
    (a : Fin 10) (r : Fin 1024) (y : Fin 5) (o : Fin 6) (j : Fin 14) :
    k0_pay2 (F := Ideal) v w b s (ix2 ⟨a.val * 1024 + r.val, by omega⟩ ⟨y.val * 84 + (o.val * 14 + j.val), by omega⟩)
      = stage1 (X r) K β o ⟨a.val + y.val, by omega⟩ j := by
  rw [pay2_eq, shapeCast_self, shapeCast_self, rows2_at _ a r y ⟨o.val * 14 + j.val, by omega⟩, keep1_at _ s hs,
    cols1_at _ _ _ _ _ (by omega), pairs1_at, pairs1_at, hb o ⟨j.val * 2, by omega⟩]
  unfold stage1
  rw [← pool_bias]
  refine congrArg (fun z => max (z + β o) 0) (congrArg₂ max (congrArg₂ max ?_ ?_) (congrArg₂ max ?_ ?_))
  · exact prod1_conv v w X K hv hw ⟨(a.val + y.val) * 2, by omega⟩ r o ⟨j.val * 2, by omega⟩
  · exact prod1_conv v w X K hv hw ⟨(a.val + y.val) * 2 + 1, by omega⟩ r o ⟨j.val * 2, by omega⟩
  · exact prod1_conv v w X K hv hw ⟨(a.val + y.val) * 2, by omega⟩ r o ⟨j.val * 2 + 1, by omega⟩
  · exact prod1_conv v w X K hv hw ⟨(a.val + y.val) * 2 + 1, by omega⟩ r o ⟨j.val * 2 + 1, by omega⟩

end Cert.Ker
end
-- ==== Proof.KRound2.lean ====
/- The kernel's second round and first dense layer at an entry. -/
module

public import proofs.«01_k».proof.Proof.KRound1

@[expose] public section

set_option maxRecDepth 16384

noncomputable section

namespace Cert.Ker
open Idealize.ShloMosaic Idealize.ShloMosaic.TcCoe Idealize.SL.Sem
open Cert.KernelIdeal Cert.KernelIdeal.Gen Cert.Net

/-- The second banded product, of an image's planes and the banded weights, is the correlation. -/
theorem prod2_conv (v : FVec Ideal S10240x420 .bf16) (w : FVec Ideal S420x160 .bf16)
    (Y : Fin 1024 → Fin 6 → Fin 14 → Fin 14 → EReal) (K : Fin 16 → Fin 6 → Fin 5 → Fin 5 → EReal)
    (hv : ∀ (a : Fin 10) (r : Fin 1024) (y : Fin 5) (c : Fin 6) (j : Fin 14),
      v (ix2 ⟨a.val * 1024 + r.val, by omega⟩ ⟨y.val * 84 + (c.val * 14 + j.val), by omega⟩) = Y r c ⟨a.val + y.val, by omega⟩ j)
    (hw : ∀ (y : Fin 5) (c : Fin 6) (i : Fin 14) (o : Fin 16) (j : Fin 10),
      w (ix2 ⟨y.val * 84 + (c.val * 14 + i.val), by omega⟩ ⟨o.val * 10 + j.val, by omega⟩) = band (K o c y) i j)
    (a : Fin 10) (r : Fin 1024) (o : Fin 16) (j : Fin 10) :
    prod2 v w (ix2 ⟨a.val * 1024 + r.val, by omega⟩ ⟨o.val * 10 + j.val, by omega⟩)
      = conv (h := 10) (w := 10) rfl rfl (Y r) (K o) a j := by
  pointwise [prod2]
  rw [Fin.sum_univ_tiles 5 84 rfl, ← sum_bands]
  refine Finset.sum_congr rfl fun y _ => ?_
  rw [Fin.sum_univ_tiles 6 14 rfl]
  refine Finset.sum_congr rfl fun c _ => Finset.sum_congr rfl fun i _ => ?_
  exact congrArg₂ (· * ·) (hv a r y c i) (hw y c i o j)

/-- The maximum of two rows at an entry. -/
theorem pairs2_at (v : FVec Ideal S10240x160 .f32) (a : Fin 5) (r : Fin 1024) (q : Fin 160) :
    pairs2 v (ix3 a r q) = max (v (ix2 ⟨(a.val * 2) * 1024 + r.val, by omega⟩ q))
      (v (ix2 ⟨(a.val * 2 + 1) * 1024 + r.val, by omega⟩ q)) := by
  pointwise [pairs2]
  rw [show Ideal.ofBits FTy.f32 0xFF800000#32 = ⊥ from rfl, fold_max_two]
  refine congrArg₂ max (congrArg v ((ix2_inj ..).2 ⟨Fin.ext ?_, rfl⟩)) (congrArg v ((ix2_inj ..).2 ⟨Fin.ext ?_, rfl⟩)) <;> simp <;> omega

/-- The maximum with the next column, biased and rectified, at an entry not in the last column. -/
theorem cols2_at (v : FVec Ideal S5x1024x160 .f32) (b : FVec Ideal S1x160 .f32) (a : Fin 5) (r : Fin 1024) (q : ℕ) (hq : q < 159) :
    cols2 v b (ix3 a r ⟨q, by omega⟩)
      = max (max (v (ix3 a r ⟨q, by omega⟩)) (v (ix3 a r ⟨q + 1, by omega⟩)) + b (ix2 0 ⟨q, by omega⟩)) 0 := by
  pointwise [cols2]
  rw [dif_pos hq]
  simp only [Nat.add_comm 1 q]

/-- The product with the keeping matrix at an entry. -/
theorem keep2_at (v : FVec Ideal S5x1024x160 .bf16) (s : FVec Ideal S160x80 .bf16)
    (hs : ∀ (k : Fin 160) (u : Fin 80), s (ix2 k u) = if k.val = u.val / 5 * 10 + u.val % 5 * 2 then (1 : EReal) else 0)
    (a : Fin 5) (r : Fin 1024) (o : Fin 16) (b : Fin 5) :
    keep2 v s (ix3 a r ⟨o.val * 5 + b.val, by omega⟩) = v (ix3 a r ⟨o.val * 10 + b.val * 2, by omega⟩) := by
  pointwise [keep2]
  simp only [hs]
  rw [← sum_pick (fun k => v (ix3 a r k)) ⟨o.val * 10 + b.val * 2, by omega⟩]
  refine Finset.sum_congr rfl fun k _ => ?_
  rw [show (o.val * 5 + b.val) / 5 = o.val by omega, show (o.val * 5 + b.val) % 5 = b.val by omega]

/-- The five rows beside each other, at any row and column. -/
theorem rows3_any (v : FVec Ideal S5x1024x80 .bf16) (r : Fin 1024) (q : Fin 400) :
    rows3 v (ix2 r q) = v (ix3 ⟨q.val / 80, by omega⟩ r ⟨q.val % 80, by omega⟩) := by
  pointwise [rows3]
  split_ifs <;> refine congrArg v ((ix3_inj ..).2 ⟨Fin.ext ?_, rfl, Fin.ext ?_⟩) <;> simp <;> omega

/-- The second round's output, laid out for the first dense layer: column `80 y + 5 o + j` holds channel `o` at `(y, j)`. -/
theorem round2 (v : FVec Ideal S10240x420 .bf16) (w : FVec Ideal S420x160 .bf16) (b : FVec Ideal S1x160 .f32)
    (s : FVec Ideal S160x80 .bf16)
    (Y : Fin 1024 → Fin 6 → Fin 14 → Fin 14 → EReal) (K : Fin 16 → Fin 6 → Fin 5 → Fin 5 → EReal) (β : Fin 16 → EReal)
    (hv : ∀ (a : Fin 10) (r : Fin 1024) (y : Fin 5) (c : Fin 6) (j : Fin 14),
      v (ix2 ⟨a.val * 1024 + r.val, by omega⟩ ⟨y.val * 84 + (c.val * 14 + j.val), by omega⟩) = Y r c ⟨a.val + y.val, by omega⟩ j)
    (hw : ∀ (y : Fin 5) (c : Fin 6) (i : Fin 14) (o : Fin 16) (j : Fin 10),
      w (ix2 ⟨y.val * 84 + (c.val * 14 + i.val), by omega⟩ ⟨o.val * 10 + j.val, by omega⟩) = band (K o c y) i j)
    (hb : ∀ (o : Fin 16) (j : Fin 10), b (ix2 0 ⟨o.val * 10 + j.val, by omega⟩) = β o)
    (hs : ∀ (k : Fin 160) (u : Fin 80), s (ix2 k u) = if k.val = u.val / 5 * 10 + u.val % 5 * 2 then (1 : EReal) else 0)
    (r : Fin 1024) (y : Fin 5) (o : Fin 16) (j : Fin 5) :
    rows3 (keep2 (cols2 (pairs2 (prod2 v w)) b) s) (ix2 r ⟨y.val * 80 + (o.val * 5 + j.val), by omega⟩)
      = stage2 (Y r) K β o y j := by
  have hrow : rows3 (keep2 (cols2 (pairs2 (prod2 v w)) b) s) (ix2 r ⟨y.val * 80 + (o.val * 5 + j.val), by omega⟩)
      = keep2 (cols2 (pairs2 (prod2 v w)) b) s (ix3 y r ⟨o.val * 5 + j.val, by omega⟩) := by
    refine (rows3_any _ _ _).trans (congrArg _ ((ix3_inj ..).2 ⟨Fin.ext ?_, rfl, Fin.ext ?_⟩)) <;> simp only <;> omega
  rw [hrow, keep2_at _ s hs, cols2_at _ _ _ _ _ (by omega), pairs2_at, pairs2_at, hb o ⟨j.val * 2, by omega⟩]
  unfold stage2
  rw [← pool_bias]
  refine congrArg (fun z => max (z + β o) 0) (congrArg₂ max (congrArg₂ max ?_ ?_) (congrArg₂ max ?_ ?_))
  · exact prod2_conv v w Y K hv hw ⟨y.val * 2, by omega⟩ r o ⟨j.val * 2, by omega⟩
  · exact prod2_conv v w Y K hv hw ⟨y.val * 2 + 1, by omega⟩ r o ⟨j.val * 2, by omega⟩
  · exact prod2_conv v w Y K hv hw ⟨y.val * 2, by omega⟩ r o ⟨j.val * 2 + 1, by omega⟩
  · exact prod2_conv v w Y K hv hw ⟨y.val * 2 + 1, by omega⟩ r o ⟨j.val * 2 + 1, by omega⟩

/-- The first dense layer, over columns in the kernel's order, is the dense layer over the planes. -/
theorem fc1_at (v : FVec Ideal S1024x400 .bf16) (w : FVec Ideal S400x120 .bf16) (b : FVec Ideal S1x120 .f32)
    (Z : Fin 1024 → Fin 16 → Fin 5 → Fin 5 → EReal) (A : Arr ⟨2, ![120, 400]⟩) (γ : Arr ⟨1, ![120]⟩)
    (hv : ∀ (r : Fin 1024) (y : Fin 5) (o : Fin 16) (j : Fin 5),
      v (ix2 r ⟨y.val * 80 + (o.val * 5 + j.val), by omega⟩) = Z r o y j)
    (hw : ∀ (y : Fin 5) (o : Fin 16) (j : Fin 5) (q : Fin 120),
      w (ix2 ⟨y.val * 80 + (o.val * 5 + j.val), by omega⟩ q) = A (ix2 q ⟨o.val * 25 + y.val * 5 + j.val, by omega⟩))
    (hb : ∀ q : Fin 120, b (ix2 0 q) = γ (ix1 q)) (r : Fin 1024) (q : Fin 120) :
    fc1 v w b (ix2 r q) = dense1 (Z r) A γ q := by
  pointwise [fc1]
  unfold dense1
  rw [hb, Fin.sum_univ_tiles 5 80 rfl]
  refine Eq.trans ?_ (congrArg (fun z => max (z + γ (ix1 q)) 0) Finset.sum_comm)
  refine congrArg (fun z => max (z + γ (ix1 q)) 0) (Finset.sum_congr rfl fun y _ => ?_)
  rw [Fin.sum_univ_tiles 16 5 rfl]
  refine Finset.sum_congr rfl fun o _ => Finset.sum_congr rfl fun j _ => ?_
  exact congrArg₂ (· * ·) (hv r y o j) (hw y o j q)

end Cert.Ker
end
-- ==== Proof.KRow.lean ====
/- The block a grid point stores, row by row: the network at that row's image. -/
module

public import proofs.«01_k».proof.Proof.KConst
public import proofs.«01_k».proof.Proof.KHead
public import proofs.«01_k».proof.Proof.KRound2
public import proofs.«01_k».proof.Proof.KRound1

@[expose] public section

set_option maxRecDepth 16384

noncomputable section

namespace Cert.Ker
open Idealize.ShloMosaic Idealize.ShloMosaic.TcCoe Idealize.SL.Sem
open Cert.KernelIdeal Cert.KernelIdeal.Gen Cert.Net

/-- The first dense layer's row, from the image block to its output. -/
theorem fc1_row (v : FVec Ideal S32x1024x96 .bf16) (k1 : FVec Ideal S6x3x5x5 .f32) (β1 : FVec Ideal S6 .f32)
    (k2 : FVec Ideal S16x6x5x5 .f32) (β2 : FVec Ideal S16 .f32) (a1 : FVec Ideal S120x400 .f32) (γ1 : FVec Ideal S120 .f32)
    (X : Fin 1024 → Fin 3 → Fin 32 → Fin 32 → EReal)
    (hv : ∀ i r (c : Fin 3) (j : Fin 32), v (ix3 i r ⟨c.val * 32 + j.val, by omega⟩) = X r c i j)
    (r : Fin 1024) (q : Fin 120) :
    k0_pay3 (F := Ideal) (k0_pay2 v (hostW1 diag1 k1) (hostB1 β1) pick1) (hostW2 diag2 k2) (hostB2 β2) pick2 (hostA1 a1)
        (shapeCast S1x120 γ1 shapeCasts_S120_S1x120) (ix2 r q)
      = dense1 (stage2 (stage1 (X r) (fun o c y z => k1 (ix4 o c y z)) (fun o => β1 (ix1 o)))
          (fun o c y z => k2 (ix4 o c y z)) (fun o => β2 (ix1 o))) a1 γ1 q := by
  rw [pay3_eq, shapeCast_self]
  refine fc1_at _ _ _ (fun r => stage2 (stage1 (X r) (fun o c y z => k1 (ix4 o c y z)) (fun o => β1 (ix1 o)))
    (fun o c y z => k2 (ix4 o c y z)) (fun o => β2 (ix1 o))) a1 γ1 (fun r y o j => ?_)
    (fun y o j q => hostA1_at a1 y o j q) (fun q => by pointwise) r q
  refine round2 _ _ _ _ (fun r => stage1 (X r) (fun o c y z => k1 (ix4 o c y z)) (fun o => β1 (ix1 o)))
    (fun o c y z => k2 (ix4 o c y z)) (fun o => β2 (ix1 o)) (fun a r y c j => ?_)
    (fun y c i o j => hostW2_at k2 y c i o j) (fun o j => hostB2_at β2 o j) pick2_at r y o j
  exact round1 v _ _ _ X (fun o c y z => k1 (ix4 o c y z)) (fun o => β1 (ix1 o)) hv
    (fun y c i o j => hostW1_at k1 y c i o j) (fun o j => hostB1_at β1 o j) pick1_at a r y c j

/-- The stored row: the whole network at that row's image. -/
theorem row_at (v : FVec Ideal S32x1024x96 .bf16) (k1 : FVec Ideal S6x3x5x5 .f32) (β1 : FVec Ideal S6 .f32)
    (k2 : FVec Ideal S16x6x5x5 .f32) (β2 : FVec Ideal S16 .f32) (a1 : FVec Ideal S120x400 .f32) (γ1 : FVec Ideal S120 .f32)
    (a2 : FVec Ideal S84x120 .f32) (γ2 : FVec Ideal S84 .f32) (g : FVec Ideal S84x2 .f32) (w : FVec Ideal S2x84x84 .f32)
    (ω : FVec Ideal S2x84 .f32) (a4 : FVec Ideal S10x84 .f32) (γ4 : FVec Ideal S10 .f32)
    (u0 u1 : FVec Ideal S1x84x84 .bf16) (z0 z1 : FVec Ideal S1x84 .f32)
    (hu0 : ∀ k d : Fin 84, u0 (ix3 0 k d) = w (ix3 0 d k)) (hu1 : ∀ k d : Fin 84, u1 (ix3 0 k d) = w (ix3 1 d k))
    (hz0 : ∀ d : Fin 84, z0 (ix2 0 d) = ω (ix2 0 d)) (hz1 : ∀ d : Fin 84, z1 (ix2 0 d) = ω (ix2 1 d))
    (X : Fin 1024 → Fin 3 → Fin 32 → Fin 32 → EReal)
    (hv : ∀ i r (c : Fin 3) (j : Fin 32), v (ix3 i r ⟨c.val * 32 + j.val, by omega⟩) = X r c i j)
    (h : FVec Ideal S1024x120 .bf16)
    (hh : h = k0_pay3 (k0_pay2 v (hostW1 diag1 k1) (hostB1 β1) pick1) (hostW2 diag2 k2) (hostB2 β2) pick2
      (hostA1 a1) (shapeCast S1x120 γ1 shapeCasts_S120_S1x120))
    (b2 : FVec Ideal S1x84 .f32) (hb2 : b2 = shapeCast S1x84 γ2 shapeCasts_S84_S1x84)
    (gg : FVec Ideal S84x2 .bf16) (hgg : gg = truncf (F := Ideal) .bf16 g bitsLt_bf16_f32)
    (b4 : FVec Ideal S1x10 .f32) (hb4 : b4 = shapeCast S1x10 γ4 shapeCasts_S10_S1x10)
    (r : Fin 1024) (q : Fin 10) :
    k0_pay1 (F := Ideal) (k0_pay5 h (hostA2 a2) b2 gg) (k0_pay6 h (hostA2 a2) b2 gg) (k0_pay7 h (hostA2 a2) b2 u0 z0)
        (k0_pay8 h (hostA2 a2) b2 u1) z1 (hostA4 a4) b4 (ix2 r q)
      = head (dense2 (dense1 (stage2 (stage1 (X r) (fun o c y z => k1 (ix4 o c y z)) (fun o => β1 (ix1 o)))
          (fun o c y z => k2 (ix4 o c y z)) (fun o => β2 (ix1 o))) a1 γ1) a2 γ2) g w ω a4 γ4 q := by
  subst hh hb2 hgg hb4
  exact head_at _ _ _ _ u0 u1 z0 z1 _ _ _ a2 γ2 g w ω a4 γ4 r (fun k => fc1_row v k1 β1 k2 β2 a1 γ1 X hv r k)
    (fun k q => hostA2_at a2 k q) (fun q => by pointwise) (fun k e => by pointwise) hu0 hu1 hz0 hz1
    (fun k q => hostA4_at a4 k q) (fun q => by pointwise) q

end Cert.Ker
end
-- ==== Proof.KFinal.lean ====
/- The kernel's final array is the network of its arguments. -/
module

public import proofs.«01_k».proof.Proof.KRow
public import Idealize.ShloMosaic.Lib.Pipeline.ValueKit

@[expose] public section

set_option maxRecDepth 16384

noncomputable section

namespace Cert.Ker
open Idealize.ShloMosaic Idealize.ShloMosaic.TcCoe Idealize.SL.Sem
open Idealize.ShloMosaic.Pipeline (Dat)
open Cert.KernelIdeal Cert.KernelIdeal.Gen Cert.Net

/-- Each window's block index at a grid point: the images and the output move with the point, the others stay. -/
theorem idx : ∀ t : Fin cfg0.N, win0_0.index t = ![0, t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0, 0] ∧ win0_13.index t = ![0, 0] ∧ win0_14.index t = ![0, 0]
    ∧ win0_15.index t = ![0, 0] ∧ win0_16.index t = ![t.val, 0] ∧ t.val < 4 :=
  (by decide +kernel : ∀ t : Fin grid0.N, _)

variable (m : (ℓ : Loc nD τ sig) → Buf (Elt Ideal) ℓ) (c : Dev nD)

/-- The image block at a point. -/
theorem iblk_x (t : Fin cfg0.N) (i : Fin 32) (r : Fin 1024) (u : Fin 96) (h : t.val * 1024 + r.val < 4096) :
    (show FVec Ideal S32x1024x96 .bf16 from iblk m c 0 t) (ix3 i r u)
      = (show FVec Ideal S32x4096x96 .bf16 from V m c main_call0_v2) (ix3 i ⟨t.val * 1024 + r.val, h⟩ u) := by
  blk_ext [iblk, idx t]

/-! Each of the other blocks is its whole operand. -/

theorem iblk_1 (t : Fin cfg0.N) : iblk m c 1 t = V m c main_call0_v6 := by blk_ext! [iblk, idx t]
theorem iblk_2 (t : Fin cfg0.N) : iblk m c 2 t = V m c main_call0_v13 := by blk_ext! [iblk, idx t]
theorem iblk_3 (t : Fin cfg0.N) : iblk m c 3 t = V m c main_call0_v10 := by blk_ext! [iblk, idx t]
theorem iblk_4 (t : Fin cfg0.N) : iblk m c 4 t = V m c main_call0_v16 := by blk_ext! [iblk, idx t]
theorem iblk_5 (t : Fin cfg0.N) : iblk m c 5 t = V m c main_call0_cst_1 := by blk_ext! [iblk, idx t]
theorem iblk_6 (t : Fin cfg0.N) : iblk m c 6 t = V m c main_call0_cst_2 := by blk_ext! [iblk, idx t]
theorem iblk_7 (t : Fin cfg0.N) : iblk m c 7 t = V m c main_call0_v20 := by blk_ext! [iblk, idx t]
theorem iblk_8 (t : Fin cfg0.N) : iblk m c 8 t = V m c main_call0_v23 := by blk_ext! [iblk, idx t]
theorem iblk_9 (t : Fin cfg0.N) : iblk m c 9 t = V m c main_call0_v25 := by blk_ext! [iblk, idx t]
theorem iblk_10 (t : Fin cfg0.N) : iblk m c 10 t = V m c main_call0_v26 := by blk_ext! [iblk, idx t]
theorem iblk_11 (t : Fin cfg0.N) : iblk m c 11 t = V m c main_call0_v27 := by blk_ext! [iblk, idx t]
theorem iblk_12 (t : Fin cfg0.N) : iblk m c 12 t = V m c main_call0_v22 := by blk_ext! [iblk, idx t]
theorem iblk_14 (t : Fin cfg0.N) : iblk m c 14 t = V m c main_call0_v29 := by blk_ext! [iblk, idx t]
theorem iblk_15 (t : Fin cfg0.N) : iblk m c 15 t = V m c main_call0_v30 := by blk_ext! [iblk, idx t]
theorem iblk_13 (t : Fin cfg0.N) : iblk m c 13 t = m ((c : Thread nD τ).loc main_arg11) := by blk_ext! [iblk, V, idx t]

theorem ld_12 (x : Vec Ideal S2x84x84 .bf16) (k d : Fin 84) : View.ld x r0_12 (ix3 0 k d) = x (ix3 0 k d) := by
  show x (r0_12.emb (ix3 0 k d)) = _
  blk_ext
theorem ld_14 (x : Vec Ideal S2x84x84 .bf16) (k d : Fin 84) : View.ld x r0_14 (ix3 0 k d) = x (ix3 1 k d) := by
  show x (r0_14.emb (ix3 0 k d)) = _
  blk_ext
theorem ld_13 (x : Vec Ideal S2x84 .f32) (d : Fin 84) : View.ld x r0_13 (ix2 0 d) = x (ix2 0 d) := by
  show x (r0_13.emb (ix2 0 d)) = _
  blk_ext
theorem ld_15 (x : Vec Ideal S2x84 .f32) (d : Fin 84) : View.ld x r0_15 (ix2 0 d) = x (ix2 1 d) := by
  show x (r0_15.emb (ix2 0 d)) = _
  blk_ext

/-- The network of the kernel's arguments. -/
def G : FVec Ideal S4096x10 .f32 :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

/-- The network at an entry whose image index is spelt otherwise. -/
theorem G_at (i : S4096x10.Idx) (n : Fin 4096) (q : Fin 10) (h0 : (i 0).val = n.val) (h1 : (i 1).val = q.val) :
    G m c i = G m c (ix2 n q) := by
  refine congrArg (G m c) ?_
  rw [eq_ix2 i]
  exact (ix2_inj ..).2 ⟨Fin.ext h0, Fin.ext h1⟩

/-- What a grid point stores, at an entry. -/
theorem stored (t : Fin cfg0.N) (r : Fin 1024) (q : Fin 10) (ht : t.val * 1024 + r.val < 4096) :
    out0_16 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) (ix2 r q)
      = G m c (ix2 ⟨t.val * 1024 + r.val, ht⟩ q) := by
  have hb (r : Fin 1024) : t.val * 1024 + r.val < 4096 := by have := (idx t).2.2.2.2.2.2.2.2.2.2.2.2.2.2.2.2.2; omega
  unfold out0_16 k0_pay9
  frame_out
  rw [iblk_1, iblk_2, iblk_3, iblk_4, iblk_5, iblk_6, iblk_7, iblk_8, iblk_9, iblk_10, iblk_11, iblk_12, iblk_13, iblk_14, iblk_15]
  rw [V_w1, V_b1, V_w2, V_b2, V_s1, V_s2, V_a1, V_c1, V_a2, V_c2, V_g, V_e, V_a4, V_c4]
  exact row_at (iblk m c 0 t) _ _ _ _ _ _ _ _ _ _ _ _ _ _ _ _ _
    (fun k d => (ld_12 _ k d).trans (hostE_at _ 0 k d)) (fun k d => (ld_14 _ k d).trans (hostE_at _ 1 k d))
    (fun d => ld_13 _ d) (fun d => ld_15 _ d)
    (fun r c' i j => (show FVec Ideal S4096x3x32x32 .f32 from m ((c : Thread nD τ).loc main_arg0)) (ix4 ⟨t.val * 1024 + r.val, hb r⟩ c' i j))
    (fun i r c' j => (iblk_x m c t i r _ (hb r)).trans ((congrFun (V_x m c) _).trans (hostX_at _ i _ c' j)))
    _ rfl _ rfl _ rfl _ rfl r q

/-- The kernel's final array. -/
theorem final : (dats m 0 c).arrAt 16 (cfgs 0).N = G m c := by
  refine (dats m 0 c).arrAt_eq_of_covers 16 _ (by decide +kernel) fun t _ y => ?_
  blk_simp
  rw [after0_16]
  have hb (r : Fin 1024) : t.val * 1024 + r.val < 4096 := by have := (idx t).2.2.2.2.2.2.2.2.2.2.2.2.2.2.2.2.2; omega
  refine Eq.trans ?_ ((stored m c t (y 0) (y 1) (hb _)).trans (G_at m c _ _ _ ?_ ?_).symm)
  · exact congrArg _ (eq_ix2 y)
  · blk_simp [idx t]
  · blk_simp [idx t]

end Cert.Ker
end
-- ==== Proof.RTools.lean ====
/- Two readings of host operations at an entry: a contraction over three axes, and a maximum over 2 × 2 windows. -/
module

public import proofs.«01_k».proof.Proof.Algebra
public import Idealize.ShloMosaic.Lib.Pointwise

@[expose] public section

set_option maxRecDepth 16384

noncomputable section

namespace Cert.Ref
open Idealize.ShloMosaic Idealize.ShloMosaic.TcCoe
open Cert.Net

/-- The index of a three-axis shape given by its list of extents. -/
def tri {a b c : ℕ} (i : Fin a) (j : Fin b) (k : Fin c) : (Shape.ofList [a, b, c]).Idx := fun p =>
  match p with
  | ⟨0, _⟩ => i
  | ⟨1, _⟩ => j
  | ⟨2, _⟩ => k

/-- The indices of a three-axis shape are the triples of coordinates. -/
def triEquiv (a b c : ℕ) : Fin a × Fin b × Fin c ≃ (Shape.ofList [a, b, c]).Idx where
  toFun k := tri k.1 k.2.1 k.2.2
  invFun k := (k ⟨0, by show 0 < 3; omega⟩, k ⟨1, by show 1 < 3; omega⟩, k ⟨2, by show 2 < 3; omega⟩)
  left_inv _ := rfl
  right_inv k := by
    funext p
    match p with
    | ⟨0, _⟩ => rfl
    | ⟨1, _⟩ => rfl
    | ⟨2, _⟩ => rfl

/-- A sum over a three-axis shape is the triple sum. -/
theorem sum_tri {a b c : ℕ} (f : (Shape.ofList [a, b, c]).Idx → EReal) :
    ∑ k, f k = ∑ i : Fin a, ∑ j : Fin b, ∑ l : Fin c, f (tri i j l) := by
  rw [← Fintype.sum_equiv (triEquiv a b c) (fun k => f (tri k.1 k.2.1 k.2.2)) f fun _ => rfl]
  simp only [Fintype.sum_prod_type]

/-- The 2 × 2 window's positions in row-major order. -/
theorem window_pos : ∀ (k : Fin (⟨4, ![1, 1, 2, 2]⟩ : Shape).numel) (a : Fin 4),
    ((⟨4, ![1, 1, 2, 2]⟩ : Shape).rowMajor.symm k a).val = (![0, 0, k.val / 2, k.val % 2] : Fin 4 → ℕ) a := by
  decide +kernel

/-- There are four of them. -/
theorem window_list : List.finRange (⟨4, ![1, 1, 2, 2]⟩ : Shape).numel
    = [⟨0, by decide⟩, ⟨1, by decide⟩, ⟨2, by decide⟩, ⟨3, by decide⟩] := by
  decide +kernel

/-- The maximum over 2 × 2 windows, from bottom, at an entry. -/
theorem window_max {N C H W h w : ℕ} {u : Shape} (hh : h * 2 = H) (hw : w * 2 = W) (x : (⟨4, ![N, C, H, W]⟩ : Shape).Idx → EReal) (v : u.Idx → EReal)
    (hv : ∀ i, v i = ⊥)
    (hr : (⟨4, ![N, C, H, W]⟩ : Shape).ReduceWindows ![1, 1, 2, 2] ![1, 1, 2, 2] ![0, 0, 0, 0] ![0, 0, 0, 0] ⟨4, ![N, C, h, w]⟩)
    (hu : 0 < u.numel) (n : Fin N) (o : Fin C) (a : Fin h) (b : Fin w) :
    Host.reduceWindow (max : EReal → EReal → EReal) ![1, 1, 2, 2] ![1, 1, 2, 2] ![0, 0, 0, 0] ![0, 0, 0, 0] x v hr hu (ix4 n o a b)
      = Net.pool hh hw (fun i j => x (ix4 n o i j)) a b := by
  subst hh hw
  unfold Host.reduceWindow
  have hk (k : Fin (⟨4, ![1, 1, 2, 2]⟩ : Shape).numel) : k.val < 4 := k.isLt
  let g : Fin (⟨4, ![1, 1, 2, 2]⟩ : Shape).numel → EReal := fun k =>
    x (ix4 n o ⟨a.val * 2 + k.val / 2, by have := hk k; omega⟩ ⟨b.val * 2 + k.val % 2, by have := hk k; omega⟩)
  refine Eq.trans (b := List.foldl (fun r k => max r (g k)) (v (Shape.Idx.first hu)) (List.finRange _)) ?_ ?_
  · refine congrArg (fun f => List.foldl f _ _) (funext fun r => funext fun k => congrArg (max r) ?_)
    have h0 : ((⟨4, ![1, 1, 2, 2]⟩ : Shape).rowMajor.symm k (0 : Fin 4)).val = 0 := window_pos k 0
    have h1 : ((⟨4, ![1, 1, 2, 2]⟩ : Shape).rowMajor.symm k (1 : Fin 4)).val = 0 := window_pos k 1
    have h2 : ((⟨4, ![1, 1, 2, 2]⟩ : Shape).rowMajor.symm k (2 : Fin 4)).val = k.val / 2 := window_pos k 2
    have h3 : ((⟨4, ![1, 1, 2, 2]⟩ : Shape).rowMajor.symm k (3 : Fin 4)).val = k.val % 2 := window_pos k 3
    have hk := hk k
    refine (dif_pos fun q => ?_).trans (congrArg x (funext fun q => Fin.ext ?_))
    · match q with
      | ⟨0, _⟩ =>
        refine ⟨Nat.zero_le _, ?_⟩
        show n.val * 1 + ((⟨4, ![1, 1, 2, 2]⟩ : Shape).rowMajor.symm k (0 : Fin 4)).val - 0 < N
        omega
      | ⟨1, _⟩ =>
        refine ⟨Nat.zero_le _, ?_⟩
        show o.val * 1 + ((⟨4, ![1, 1, 2, 2]⟩ : Shape).rowMajor.symm k (1 : Fin 4)).val - 0 < C
        omega
      | ⟨2, _⟩ =>
        refine ⟨Nat.zero_le _, ?_⟩
        show a.val * 2 + ((⟨4, ![1, 1, 2, 2]⟩ : Shape).rowMajor.symm k (2 : Fin 4)).val - 0 < h * 2
        omega
      | ⟨3, _⟩ =>
        refine ⟨Nat.zero_le _, ?_⟩
        show b.val * 2 + ((⟨4, ![1, 1, 2, 2]⟩ : Shape).rowMajor.symm k (3 : Fin 4)).val - 0 < w * 2
        omega
    · match q with
      | ⟨0, _⟩ =>
        show n.val * 1 + ((⟨4, ![1, 1, 2, 2]⟩ : Shape).rowMajor.symm k (0 : Fin 4)).val - 0 = n.val
        omega
      | ⟨1, _⟩ =>
        show o.val * 1 + ((⟨4, ![1, 1, 2, 2]⟩ : Shape).rowMajor.symm k (1 : Fin 4)).val - 0 = o.val
        omega
      | ⟨2, _⟩ =>
        show a.val * 2 + ((⟨4, ![1, 1, 2, 2]⟩ : Shape).rowMajor.symm k (2 : Fin 4)).val - 0 = a.val * 2 + k.val / 2
        omega
      | ⟨3, _⟩ =>
        show b.val * 2 + ((⟨4, ![1, 1, 2, 2]⟩ : Shape).rowMajor.symm k (3 : Fin 4)).val - 0 = b.val * 2 + k.val % 2
        omega
  · rw [window_list, hv]
    simp only [List.foldl, bot_sup_eq, g]
    unfold Net.pool
    rw [max_assoc]
    rfl

end Cert.Ref
end
-- ==== Proof.RConv1.lean ====
/- The reference's first convolution round at an entry. -/
module

public import proofs.«01_k».proof.Proof.Gen.ReferenceIdeal.Run
public import proofs.«01_k».proof.Proof.RTools

@[expose] public section

set_option maxRecDepth 16384

noncomputable section

namespace Cert.Ref
open Idealize.ShloMosaic Idealize.ShloMosaic.TcCoe Idealize.SL.Sem
open Cert.ReferenceIdeal Cert.ReferenceIdeal.Gen Cert.Net

/-- Five shifted copies of the planes along a row, stacked. -/
def cols1 (x : FVec Ideal S4096x3x32x32 .f32) : FVec Ideal S4096x3x5x32x28 .f32 :=
  concatenate S4096x3x5x32x28 2 [
    ⟨S4096x3x1x32x28, broadcastInDim S4096x3x1x32x28 ![0, 1, 3, 4] bcast_S4096x3x32x28_S4096x3x1x32x28_0_1_3_4
      (extractStridedSlice S4096x3x32x28 ![0, 0, 0, 0] x slices_S4096x3x32x32_S4096x3x32x28_0_0_0_0)⟩,
    ⟨S4096x3x1x32x28, broadcastInDim S4096x3x1x32x28 ![0, 1, 3, 4] bcast_S4096x3x32x28_S4096x3x1x32x28_0_1_3_4
      (extractStridedSlice S4096x3x32x28 ![0, 0, 0, 1] x slices_S4096x3x32x32_S4096x3x32x28_0_0_0_1)⟩,
    ⟨S4096x3x1x32x28, broadcastInDim S4096x3x1x32x28 ![0, 1, 3, 4] bcast_S4096x3x32x28_S4096x3x1x32x28_0_1_3_4
      (extractStridedSlice S4096x3x32x28 ![0, 0, 0, 2] x slices_S4096x3x32x32_S4096x3x32x28_0_0_0_2)⟩,
    ⟨S4096x3x1x32x28, broadcastInDim S4096x3x1x32x28 ![0, 1, 3, 4] bcast_S4096x3x32x28_S4096x3x1x32x28_0_1_3_4
      (extractStridedSlice S4096x3x32x28 ![0, 0, 0, 3] x slices_S4096x3x32x32_S4096x3x32x28_0_0_0_3)⟩,
    ⟨S4096x3x1x32x28, broadcastInDim S4096x3x1x32x28 ![0, 1, 3, 4] bcast_S4096x3x32x28_S4096x3x1x32x28_0_1_3_4
      (extractStridedSlice S4096x3x32x28 ![0, 0, 0, 4] x slices_S4096x3x32x32_S4096x3x32x28_0_0_0_4)⟩]
    concatenates_S4096x3x1x32x28_S4096x3x1x32x28_S4096x3x1x32x28_S4096x3x1x32x28_S4096x3x1x32x28_S4096x3x5x32x28_d2

/-- Five shifted copies of the stacked planes along a column, stacked: the patches. -/
def patches1 (x : FVec Ideal S4096x3x5x32x28 .f32) : FVec Ideal S4096x3x5x5x28x28 .f32 :=
  concatenate S4096x3x5x5x28x28 2 [
    ⟨S4096x3x1x5x28x28, broadcastInDim S4096x3x1x5x28x28 ![0, 1, 3, 4, 5] bcast_S4096x3x5x28x28_S4096x3x1x5x28x28_0_1_3_4_5
      (extractStridedSlice S4096x3x5x28x28 ![0, 0, 0, 0, 0] x slices_S4096x3x5x32x28_S4096x3x5x28x28_0_0_0_0_0)⟩,
    ⟨S4096x3x1x5x28x28, broadcastInDim S4096x3x1x5x28x28 ![0, 1, 3, 4, 5] bcast_S4096x3x5x28x28_S4096x3x1x5x28x28_0_1_3_4_5
      (extractStridedSlice S4096x3x5x28x28 ![0, 0, 0, 1, 0] x slices_S4096x3x5x32x28_S4096x3x5x28x28_0_0_0_1_0)⟩,
    ⟨S4096x3x1x5x28x28, broadcastInDim S4096x3x1x5x28x28 ![0, 1, 3, 4, 5] bcast_S4096x3x5x28x28_S4096x3x1x5x28x28_0_1_3_4_5
      (extractStridedSlice S4096x3x5x28x28 ![0, 0, 0, 2, 0] x slices_S4096x3x5x32x28_S4096x3x5x28x28_0_0_0_2_0)⟩,
    ⟨S4096x3x1x5x28x28, broadcastInDim S4096x3x1x5x28x28 ![0, 1, 3, 4, 5] bcast_S4096x3x5x28x28_S4096x3x1x5x28x28_0_1_3_4_5
      (extractStridedSlice S4096x3x5x28x28 ![0, 0, 0, 3, 0] x slices_S4096x3x5x32x28_S4096x3x5x28x28_0_0_0_3_0)⟩,
    ⟨S4096x3x1x5x28x28, broadcastInDim S4096x3x1x5x28x28 ![0, 1, 3, 4, 5] bcast_S4096x3x5x28x28_S4096x3x1x5x28x28_0_1_3_4_5
      (extractStridedSlice S4096x3x5x28x28 ![0, 0, 0, 4, 0] x slices_S4096x3x5x32x28_S4096x3x5x28x28_0_0_0_4_0)⟩]
    concatenates_S4096x3x1x5x28x28_S4096x3x1x5x28x28_S4096x3x1x5x28x28_S4096x3x1x5x28x28_S4096x3x1x5x28x28_S4096x3x5x5x28x28_d2

/-- The weights against the patches, image axis first. -/
def dots1 (k : FVec Ideal S6x3x5x5 .f32) (p : FVec Ideal S4096x3x5x5x28x28 .f32) : FVec Ideal S4096x6x28x28 .f32 :=
  transpose S4096x6x28x28 [1, 0, 2, 3] (Host.dotGeneral dot_S6x3x5x5_S4096x3x5x5x28x28_S6x4096x28x28_132_132_0_045_n_n none k p)
    transposes_S6x4096x28x28_S4096x6x28x28_1_0_2_3

/-- The bias added and the negative part cut. -/
def relus1 (z : FVec Ideal S4096x6x28x28 .f32) (b : FVec Ideal S6 .f32) : FVec Ideal S4096x6x28x28 .f32 :=
  maximumf (addf z (broadcastInDim S4096x6x28x28 ![0, 1, 2, 3] bcast_S1x6x1x1_S4096x6x28x28_0_1_2_3
    (broadcastInDim S1x6x1x1 ![1] bcast_S6_S1x6x1x1_1 b)))
    (broadcastInDim S4096x6x28x28 ![] bcast_S_S4096x6x28x28 (constant S_ .f32 0x00000000#32))

/-- The maximum over 2 × 2 windows. -/
def pools1 (z : FVec Ideal S4096x6x28x28 .f32) : FVec Ideal S4096x6x14x14 .f32 :=
  Host.reduceWindow FloatOps.maximumf ![1, 1, 2, 2] ![1, 1, 2, 2] ![0, 0, 0, 0] ![0, 0, 0, 0] z
    (broadcastInDim S_ ![] bcast_S_S_ (constant S_ .f32 0xFF800000#32))
    reduceWindows_S4096x6x28x28_S4096x6x14x14_w1s1p0_0_w1s1p0_0_w2s2p0_0_w2s2p0_0 h_S_

theorem cols1_at (x : FVec Ideal S4096x3x32x32 .f32) (n : Fin 4096) (c : Fin 3) (d : Fin 5) (i : Fin 32) (j : Fin 28) :
    cols1 x (ix5 n c d i j) = x (ix4 n c i ⟨j.val + d.val, by omega⟩) := by
  pointwise [cols1]
  split_ifs <;> refine congrArg x ((ix4_inj ..).2 ⟨rfl, rfl, rfl, Fin.ext ?_⟩) <;> simp only <;> omega

theorem patches1_at (x : FVec Ideal S4096x3x5x32x28 .f32) (n : Fin 4096) (c : Fin 3) (y d : Fin 5) (i j : Fin 28) :
    patches1 x (ix6 n c y d i j) = x (ix5 n c d ⟨i.val + y.val, by omega⟩ j) := by
  pointwise [patches1]
  split_ifs <;> refine congrArg x ((ix5_inj ..).2 ⟨rfl, rfl, rfl, Fin.ext ?_, rfl⟩) <;> simp only <;> omega

theorem dots1_at (k : FVec Ideal S6x3x5x5 .f32) (p : FVec Ideal S4096x3x5x5x28x28 .f32) (n : Fin 4096) (o : Fin 6) (i j : Fin 28) :
    dots1 k p (ix4 n o i j) = ∑ c : Fin 3, ∑ d : Fin 5, ∑ y : Fin 5, k (ix4 o c y d) * p (ix6 n c y d i j) := by
  have hT (z : FVec Ideal S6x4096x28x28 .f32) : transpose S4096x6x28x28 [1, 0, 2, 3] z
      transposes_S6x4096x28x28_S4096x6x28x28_1_0_2_3 (ix4 n o i j) = z (ix4 o n i j) := by pointwise
  refine (hT _).trans ((Ideal.dotGeneral_apply _ _ _ _ _ _).trans ((sum_tri (a := 3) (b := 5) (c := 5) _).trans ?_))
  refine Finset.sum_congr rfl fun c _ => Finset.sum_congr rfl fun d _ => Finset.sum_congr rfl fun y _ => ?_
  refine congrArg₂ (· * ·) (congrArg k ?_) (congrArg p ?_)
  · funext q
    match q with
    | ⟨0, _⟩ => rfl
    | ⟨1, _⟩ => rfl
    | ⟨2, _⟩ => rfl
    | ⟨3, _⟩ => rfl
  · funext q
    match q with
    | ⟨0, _⟩ => rfl
    | ⟨1, _⟩ => rfl
    | ⟨2, _⟩ => rfl
    | ⟨3, _⟩ => rfl
    | ⟨4, _⟩ => rfl
    | ⟨5, _⟩ => rfl

/-- The weights against the patches are the convolution. -/
theorem conv1_at (x : FVec Ideal S4096x3x32x32 .f32) (k : FVec Ideal S6x3x5x5 .f32) (n : Fin 4096) (o : Fin 6) (i j : Fin 28) :
    dots1 k (patches1 (cols1 x)) (ix4 n o i j)
      = conv (w := 28) (h := 28) rfl rfl (fun c a b => x (ix4 n c a b)) (fun c y d => k (ix4 o c y d)) i j := by
  rw [dots1_at]
  unfold conv
  refine Finset.sum_congr rfl fun c _ => Finset.sum_comm.trans ?_
  refine Finset.sum_congr rfl fun y _ => Finset.sum_congr rfl fun d _ => ?_
  rw [patches1_at, cols1_at]
  exact mul_comm _ _

theorem relus1_at (z : FVec Ideal S4096x6x28x28 .f32) (b : FVec Ideal S6 .f32) (n : Fin 4096) (o : Fin 6) (i j : Fin 28) :
    relus1 z b (ix4 n o i j) = max (z (ix4 n o i j) + b (ix1 o)) 0 := by
  pointwise [relus1]

/-- Round 1 at an entry. -/
theorem round1_at (x : FVec Ideal S4096x3x32x32 .f32) (k : FVec Ideal S6x3x5x5 .f32) (b : FVec Ideal S6 .f32)
    (n : Fin 4096) (o : Fin 6) (i j : Fin 14) :
    pools1 (relus1 (dots1 k (patches1 (cols1 x))) b) (ix4 n o i j)
      = stage1 (fun c a b => x (ix4 n c a b)) (fun o c y d => k (ix4 o c y d)) (fun o => b (ix1 o)) o i j := by
  refine (window_max (h := 14) (w := 14) rfl rfl _ _ (fun _ => rfl) _ _ n o i j).trans ?_
  simp only [relus1_at, conv1_at]
  rfl

end Cert.Ref
end
-- ==== Proof.RConv2.lean ====
/- The reference's second convolution round at an entry. -/
module

public import proofs.«01_k».proof.Proof.Gen.ReferenceIdeal.Run
public import proofs.«01_k».proof.Proof.RTools

@[expose] public section

set_option maxRecDepth 16384

noncomputable section

namespace Cert.Ref
open Idealize.ShloMosaic Idealize.ShloMosaic.TcCoe Idealize.SL.Sem
open Cert.ReferenceIdeal Cert.ReferenceIdeal.Gen Cert.Net

/-- Five shifted copies of the planes along a row, stacked. -/
def cols2 (x : FVec Ideal S4096x6x14x14 .f32) : FVec Ideal S4096x6x5x14x10 .f32 :=
  concatenate S4096x6x5x14x10 2 [
    ⟨S4096x6x1x14x10, broadcastInDim S4096x6x1x14x10 ![0, 1, 3, 4] bcast_S4096x6x14x10_S4096x6x1x14x10_0_1_3_4
      (extractStridedSlice S4096x6x14x10 ![0, 0, 0, 0] x slices_S4096x6x14x14_S4096x6x14x10_0_0_0_0)⟩,
    ⟨S4096x6x1x14x10, broadcastInDim S4096x6x1x14x10 ![0, 1, 3, 4] bcast_S4096x6x14x10_S4096x6x1x14x10_0_1_3_4
      (extractStridedSlice S4096x6x14x10 ![0, 0, 0, 1] x slices_S4096x6x14x14_S4096x6x14x10_0_0_0_1)⟩,
    ⟨S4096x6x1x14x10, broadcastInDim S4096x6x1x14x10 ![0, 1, 3, 4] bcast_S4096x6x14x10_S4096x6x1x14x10_0_1_3_4
      (extractStridedSlice S4096x6x14x10 ![0, 0, 0, 2] x slices_S4096x6x14x14_S4096x6x14x10_0_0_0_2)⟩,
    ⟨S4096x6x1x14x10, broadcastInDim S4096x6x1x14x10 ![0, 1, 3, 4] bcast_S4096x6x14x10_S4096x6x1x14x10_0_1_3_4
      (extractStridedSlice S4096x6x14x10 ![0, 0, 0, 3] x slices_S4096x6x14x14_S4096x6x14x10_0_0_0_3)⟩,
    ⟨S4096x6x1x14x10, broadcastInDim S4096x6x1x14x10 ![0, 1, 3, 4] bcast_S4096x6x14x10_S4096x6x1x14x10_0_1_3_4
      (extractStridedSlice S4096x6x14x10 ![0, 0, 0, 4] x slices_S4096x6x14x14_S4096x6x14x10_0_0_0_4)⟩]
    concatenates_S4096x6x1x14x10_S4096x6x1x14x10_S4096x6x1x14x10_S4096x6x1x14x10_S4096x6x1x14x10_S4096x6x5x14x10_d2

/-- Five shifted copies of the stacked planes along a column, stacked: the patches. -/
def patches2 (x : FVec Ideal S4096x6x5x14x10 .f32) : FVec Ideal S4096x6x5x5x10x10 .f32 :=
  concatenate S4096x6x5x5x10x10 2 [
    ⟨S4096x6x1x5x10x10, broadcastInDim S4096x6x1x5x10x10 ![0, 1, 3, 4, 5] bcast_S4096x6x5x10x10_S4096x6x1x5x10x10_0_1_3_4_5
      (extractStridedSlice S4096x6x5x10x10 ![0, 0, 0, 0, 0] x slices_S4096x6x5x14x10_S4096x6x5x10x10_0_0_0_0_0)⟩,
    ⟨S4096x6x1x5x10x10, broadcastInDim S4096x6x1x5x10x10 ![0, 1, 3, 4, 5] bcast_S4096x6x5x10x10_S4096x6x1x5x10x10_0_1_3_4_5
      (extractStridedSlice S4096x6x5x10x10 ![0, 0, 0, 1, 0] x slices_S4096x6x5x14x10_S4096x6x5x10x10_0_0_0_1_0)⟩,
    ⟨S4096x6x1x5x10x10, broadcastInDim S4096x6x1x5x10x10 ![0, 1, 3, 4, 5] bcast_S4096x6x5x10x10_S4096x6x1x5x10x10_0_1_3_4_5
      (extractStridedSlice S4096x6x5x10x10 ![0, 0, 0, 2, 0] x slices_S4096x6x5x14x10_S4096x6x5x10x10_0_0_0_2_0)⟩,
    ⟨S4096x6x1x5x10x10, broadcastInDim S4096x6x1x5x10x10 ![0, 1, 3, 4, 5] bcast_S4096x6x5x10x10_S4096x6x1x5x10x10_0_1_3_4_5
      (extractStridedSlice S4096x6x5x10x10 ![0, 0, 0, 3, 0] x slices_S4096x6x5x14x10_S4096x6x5x10x10_0_0_0_3_0)⟩,
    ⟨S4096x6x1x5x10x10, broadcastInDim S4096x6x1x5x10x10 ![0, 1, 3, 4, 5] bcast_S4096x6x5x10x10_S4096x6x1x5x10x10_0_1_3_4_5
      (extractStridedSlice S4096x6x5x10x10 ![0, 0, 0, 4, 0] x slices_S4096x6x5x14x10_S4096x6x5x10x10_0_0_0_4_0)⟩]
    concatenates_S4096x6x1x5x10x10_S4096x6x1x5x10x10_S4096x6x1x5x10x10_S4096x6x1x5x10x10_S4096x6x1x5x10x10_S4096x6x5x5x10x10_d2

/-- The weights against the patches, image axis first. -/
def dots2 (k : FVec Ideal S16x6x5x5 .f32) (p : FVec Ideal S4096x6x5x5x10x10 .f32) : FVec Ideal S4096x16x10x10 .f32 :=
  transpose S4096x16x10x10 [1, 0, 2, 3] (Host.dotGeneral dot_S16x6x5x5_S4096x6x5x5x10x10_S16x4096x10x10_132_132_0_045_n_n none k p)
    transposes_S16x4096x10x10_S4096x16x10x10_1_0_2_3

/-- The bias added and the negative part cut. -/
def relus2 (z : FVec Ideal S4096x16x10x10 .f32) (b : FVec Ideal S16 .f32) : FVec Ideal S4096x16x10x10 .f32 :=
  maximumf (addf z (broadcastInDim S4096x16x10x10 ![0, 1, 2, 3] bcast_S1x16x1x1_S4096x16x10x10_0_1_2_3
    (broadcastInDim S1x16x1x1 ![1] bcast_S16_S1x16x1x1_1 b)))
    (broadcastInDim S4096x16x10x10 ![] bcast_S_S4096x16x10x10 (constant S_ .f32 0x00000000#32))

/-- The maximum over 2 × 2 windows. -/
def pools2 (z : FVec Ideal S4096x16x10x10 .f32) : FVec Ideal S4096x16x5x5 .f32 :=
  Host.reduceWindow FloatOps.maximumf ![1, 1, 2, 2] ![1, 1, 2, 2] ![0, 0, 0, 0] ![0, 0, 0, 0] z
    (broadcastInDim S_ ![] bcast_S_S_ (constant S_ .f32 0xFF800000#32))
    reduceWindows_S4096x16x10x10_S4096x16x5x5_w1s1p0_0_w1s1p0_0_w2s2p0_0_w2s2p0_0 h_S_

theorem cols2_at (x : FVec Ideal S4096x6x14x14 .f32) (n : Fin 4096) (c : Fin 6) (d : Fin 5) (i : Fin 14) (j : Fin 10) :
    cols2 x (ix5 n c d i j) = x (ix4 n c i ⟨j.val + d.val, by omega⟩) := by
  pointwise [cols2]
  split_ifs <;> refine congrArg x ((ix4_inj ..).2 ⟨rfl, rfl, rfl, Fin.ext ?_⟩) <;> simp only <;> omega

theorem patches2_at (x : FVec Ideal S4096x6x5x14x10 .f32) (n : Fin 4096) (c : Fin 6) (y d : Fin 5) (i j : Fin 10) :
    patches2 x (ix6 n c y d i j) = x (ix5 n c d ⟨i.val + y.val, by omega⟩ j) := by
  pointwise [patches2]
  split_ifs <;> refine congrArg x ((ix5_inj ..).2 ⟨rfl, rfl, rfl, Fin.ext ?_, rfl⟩) <;> simp only <;> omega

theorem dots2_at (k : FVec Ideal S16x6x5x5 .f32) (p : FVec Ideal S4096x6x5x5x10x10 .f32) (n : Fin 4096) (o : Fin 16) (i j : Fin 10) :
    dots2 k p (ix4 n o i j) = ∑ c : Fin 6, ∑ d : Fin 5, ∑ y : Fin 5, k (ix4 o c y d) * p (ix6 n c y d i j) := by
  have hT (z : FVec Ideal S16x4096x10x10 .f32) : transpose S4096x16x10x10 [1, 0, 2, 3] z
      transposes_S16x4096x10x10_S4096x16x10x10_1_0_2_3 (ix4 n o i j) = z (ix4 o n i j) := by pointwise
  refine (hT _).trans ((Ideal.dotGeneral_apply _ _ _ _ _ _).trans ((sum_tri (a := 6) (b := 5) (c := 5) _).trans ?_))
  refine Finset.sum_congr rfl fun c _ => Finset.sum_congr rfl fun d _ => Finset.sum_congr rfl fun y _ => ?_
  refine congrArg₂ (· * ·) (congrArg k ?_) (congrArg p ?_)
  · funext q
    match q with
    | ⟨0, _⟩ => rfl
    | ⟨1, _⟩ => rfl
    | ⟨2, _⟩ => rfl
    | ⟨3, _⟩ => rfl
  · funext q
    match q with
    | ⟨0, _⟩ => rfl
    | ⟨1, _⟩ => rfl
    | ⟨2, _⟩ => rfl
    | ⟨3, _⟩ => rfl
    | ⟨4, _⟩ => rfl
    | ⟨5, _⟩ => rfl

/-- The weights against the patches are the convolution. -/
theorem conv2_at (x : FVec Ideal S4096x6x14x14 .f32) (k : FVec Ideal S16x6x5x5 .f32) (n : Fin 4096) (o : Fin 16) (i j : Fin 10) :
    dots2 k (patches2 (cols2 x)) (ix4 n o i j)
      = conv (w := 10) (h := 10) rfl rfl (fun c a b => x (ix4 n c a b)) (fun c y d => k (ix4 o c y d)) i j := by
  rw [dots2_at]
  unfold conv
  refine Finset.sum_congr rfl fun c _ => Finset.sum_comm.trans ?_
  refine Finset.sum_congr rfl fun y _ => Finset.sum_congr rfl fun d _ => ?_
  rw [patches2_at, cols2_at]
  exact mul_comm _ _

theorem relus2_at (z : FVec Ideal S4096x16x10x10 .f32) (b : FVec Ideal S16 .f32) (n : Fin 4096) (o : Fin 16) (i j : Fin 10) :
    relus2 z b (ix4 n o i j) = max (z (ix4 n o i j) + b (ix1 o)) 0 := by
  pointwise [relus2]

/-- Round 2 at an entry. -/
theorem round2_at (x : FVec Ideal S4096x6x14x14 .f32) (k : FVec Ideal S16x6x5x5 .f32) (b : FVec Ideal S16 .f32)
    (n : Fin 4096) (o : Fin 16) (i j : Fin 5) :
    pools2 (relus2 (dots2 k (patches2 (cols2 x))) b) (ix4 n o i j)
      = stage2 (fun c a b => x (ix4 n c a b)) (fun o c y d => k (ix4 o c y d)) (fun o => b (ix1 o)) o i j := by
  refine (window_max (h := 5) (w := 5) rfl rfl _ _ (fun _ => rfl) _ _ n o i j).trans ?_
  simp only [relus2_at, conv2_at]
  rfl

end Cert.Ref
end
-- ==== Proof.RHidden.lean ====
/- The reference's hidden layer: its two dense layers at an entry, and the term the generated run names for it as the
   stages composed. -/
module

public import proofs.«01_k».proof.Proof.RConv1
public import proofs.«01_k».proof.Proof.RConv2

@[expose] public section

set_option maxRecDepth 16384

noncomputable section

namespace Cert.Ref
open Idealize.ShloMosaic Idealize.ShloMosaic.TcCoe Idealize.SL.Sem
open Cert.ReferenceIdeal Cert.ReferenceIdeal.Gen Cert.Net

/-- The planes flattened to one row per image. -/
def flat (x : FVec Ideal S4096x16x5x5 .f32) : FVec Ideal S4096x400 .f32 :=
  shapeCast _ x shapeCasts_S4096x16x5x5_S4096x400

/-- The first dense layer. -/
def denses1 (x : FVec Ideal S4096x400 .f32) (a : FVec Ideal S120x400 .f32) (b : FVec Ideal S120 .f32) :
    FVec Ideal S4096x120 .f32 :=
  maximumf (addf (Host.dotGeneral dot_S4096x400_S400x120_S4096x120_1_0_0_1_n_n none x
      (transpose S400x120 [1, 0] a transposes_S120x400_S400x120_1_0))
    (broadcastInDim S4096x120 ![0, 1] bcast_S1x120_S4096x120_0_1 (broadcastInDim S1x120 ![1] bcast_S120_S1x120_1 b)))
    (broadcastInDim S4096x120 ![] bcast_S_S4096x120 (constant S_ .f32 0x00000000#32))

/-- The second dense layer. -/
def denses2 (x : FVec Ideal S4096x120 .f32) (a : FVec Ideal S84x120 .f32) (b : FVec Ideal S84 .f32) :
    FVec Ideal S4096x84 .f32 :=
  maximumf (addf (Host.dotGeneral dot_S4096x120_S120x84_S4096x84_1_0_0_1_n_n none x
      (transpose S120x84 [1, 0] a transposes_S84x120_S120x84_1_0))
    (broadcastInDim S4096x84 ![0, 1] bcast_S1x84_S4096x84_0_1 (broadcastInDim S1x84 ![1] bcast_S84_S1x84_1 b)))
    (broadcastInDim S4096x84 ![] bcast_S_S4096x84 (constant S_ .f32 0x00000000#32))

theorem flat_any (x : FVec Ideal S4096x16x5x5 .f32) (n : Fin 4096) (k : Fin 400) :
    flat x (ix2 n k) = x (ix4 n ⟨k.val / 25, by omega⟩ ⟨k.val / 5 % 5, by omega⟩ ⟨k.val % 5, by omega⟩) := by
  refine shapeCast_apply _ _ _ _ ?_
  rw [Shape.rowMajor_val_two, Shape.rowMajor_val_four]
  show ((n.val * 16 + k.val / 25) * 5 + k.val / 5 % 5) * 5 + k.val % 5 = n.val * 400 + k.val
  omega

theorem denses1_any (x : FVec Ideal S4096x400 .f32) (a : FVec Ideal S120x400 .f32) (b : FVec Ideal S120 .f32)
    (n : Fin 4096) (q : Fin 120) :
    denses1 x a b (ix2 n q) = max ((∑ k : Fin 400, x (ix2 n k) * a (ix2 q k)) + b (ix1 q)) 0 := by
  pointwise [denses1]

/-- The first dense layer at an entry, from the planes. -/
theorem denses1_at (x : FVec Ideal S4096x16x5x5 .f32) (a : FVec Ideal S120x400 .f32) (b : FVec Ideal S120 .f32)
    (n : Fin 4096) (q : Fin 120) :
    denses1 (flat x) a b (ix2 n q) = dense1 (fun c y z => x (ix4 n c y z)) a b q := by
  rw [denses1_any]
  unfold dense1
  refine congrArg (fun z => max (z + b (ix1 q)) 0) ?_
  rw [Fin.sum_univ_tiles 16 25 rfl]
  refine Finset.sum_congr rfl fun c _ => ?_
  rw [Fin.sum_univ_tiles 5 5 rfl]
  refine Finset.sum_congr rfl fun y _ => Finset.sum_congr rfl fun z _ => ?_
  rw [flat_any]
  refine congrArg₂ (· * ·) (congrArg x ((ix4_inj ..).2 ⟨rfl, Fin.ext ?_, Fin.ext ?_, Fin.ext ?_⟩))
    (congrArg a ((ix2_inj ..).2 ⟨rfl, Fin.ext ?_⟩)) <;> simp only <;> omega

theorem denses2_at (x : FVec Ideal S4096x120 .f32) (a : FVec Ideal S84x120 .f32) (b : FVec Ideal S84 .f32)
    (n : Fin 4096) (q : Fin 84) : denses2 x a b (ix2 n q) = dense2 (fun k => x (ix2 n k)) a b q := by
  pointwise [denses2, dense2]

/-- The hidden layer's array from the arguments. -/
def hiddens (x : FVec Ideal S4096x3x32x32 .f32) (k1 : FVec Ideal S6x3x5x5 .f32) (b1 : FVec Ideal S6 .f32)
    (k2 : FVec Ideal S16x6x5x5 .f32) (b2 : FVec Ideal S16 .f32) (a1 : FVec Ideal S120x400 .f32) (g1 : FVec Ideal S120 .f32)
    (a2 : FVec Ideal S84x120 .f32) (g2 : FVec Ideal S84 .f32) : FVec Ideal S4096x84 .f32 :=
  denses2 (denses1 (flat (pools2 (relus2 (dots2 k2 (patches2 (cols2
    (pools1 (relus1 (dots1 k1 (patches1 (cols1 x))) b1))))) b2))) a1 g1) a2 g2

/-- The hidden layer's array holds each image's hidden layer. -/
theorem hiddens_at (x : FVec Ideal S4096x3x32x32 .f32) (k1 : FVec Ideal S6x3x5x5 .f32) (b1 : FVec Ideal S6 .f32)
    (k2 : FVec Ideal S16x6x5x5 .f32) (b2 : FVec Ideal S16 .f32) (a1 : FVec Ideal S120x400 .f32) (g1 : FVec Ideal S120 .f32)
    (a2 : FVec Ideal S84x120 .f32) (g2 : FVec Ideal S84 .f32) (n : Fin 4096) (q : Fin 84) :
    hiddens x k1 b1 k2 b2 a1 g1 a2 g2 (ix2 n q) = Net.hidden x k1 b1 k2 b2 a1 g1 a2 g2 n q := by
  unfold hiddens Net.hidden
  simp only [denses2_at, denses1_at, round2_at, round1_at]

/-- The term the run names for the hidden layer is that array. -/
theorem v72_eq (V : Valuation τ sig (Elt Ideal)) :
    Value.res_main_v72 V = hiddens (V (Proc.devRef .tc main_arg0)) (V (Proc.devRef .tc main_arg1))
      (V (Proc.devRef .tc main_arg2)) (V (Proc.devRef .tc main_arg3)) (V (Proc.devRef .tc main_arg4))
      (V (Proc.devRef .tc main_arg5)) (V (Proc.devRef .tc main_arg6)) (V (Proc.devRef .tc main_arg7))
      (V (Proc.devRef .tc main_arg8)) := by
  have h10 : Value.res_main_v10 V = cols1 (V (Proc.devRef .tc main_arg0)) := rfl
  have h29 : Value.res_main_v29 V = pools1 (relus1 (dots1 (V (Proc.devRef .tc main_arg1)) (patches1 (Value.res_main_v10 V)))
    (V (Proc.devRef .tc main_arg2))) := rfl
  have h40 : Value.res_main_v40 V = cols2 (Value.res_main_v29 V) := rfl
  have h72 : Value.res_main_v72 V = denses2 (denses1 (flat (pools2 (relus2 (dots2 (V (Proc.devRef .tc main_arg3))
    (patches2 (Value.res_main_v40 V))) (V (Proc.devRef .tc main_arg4))))) (V (Proc.devRef .tc main_arg5))
    (V (Proc.devRef .tc main_arg6))) (V (Proc.devRef .tc main_arg7)) (V (Proc.devRef .tc main_arg8)) := rfl
  rw [h72, h40, h29, h10]
  rfl

end Cert.Ref
end
-- ==== Proof.RTop.lean ====
/- The reference's gates, and its sort of each image's two gates: a permutation of the two, with the experts' numbers
   permuted alike. -/
module

public import proofs.«01_k».proof.Proof.Gen.ReferenceIdeal.Run
public import proofs.«01_k».proof.Proof.Algebra

@[expose] public section

set_option maxRecDepth 16384

noncomputable section

namespace Cert.Ref
open Idealize.ShloMosaic Idealize.ShloMosaic.TcCoe Idealize.SL.Sem
open Cert.ReferenceIdeal Cert.ReferenceIdeal.Gen Cert.Net

/-- The logits of the two experts. -/
def logits (h : FVec Ideal S4096x84 .f32) (g : FVec Ideal S84x2 .f32) : FVec Ideal S4096x2 .f32 :=
  Host.dotGeneral dot_S4096x84_S84x2_S4096x2_1_0_0_1_n_n none h g

/-- The exponentials of the logits less their row's maximum. -/
def weights (l : FVec Ideal S4096x2 .f32) : FVec Ideal S4096x2 .f32 :=
  Host.exp (subf l (broadcastInDim S4096x2 ![0, 1] bcast_S4096x1_S4096x2_0_1 (broadcastInDim S4096x1 ![0] bcast_S4096_S4096x1_0
    (maximumf (broadcastInDim S4096 ![] bcast_S_S4096 (constant S_ .f32 0xFF800000#32))
      (Host.reduce FloatOps.maximumf l (constant S_ .f32 0xFF800000#32) reducesTo_S4096x2_S4096_d1 h_S_)))))

/-- Each row divided by its sum. -/
def gates (w : FVec Ideal S4096x2 .f32) : FVec Ideal S4096x2 .f32 :=
  Host.divf w (broadcastInDim S4096x2 ![0, 1] bcast_S4096x1_S4096x2_0_1 (broadcastInDim S4096x1 ![0] bcast_S4096_S4096x1_0
    (Host.reduceAdd w (constant S_ .f32 0x00000000#32) reducesTo_S4096x2_S4096_d1 h_S_)))

theorem logits_at (h : FVec Ideal S4096x84 .f32) (g : FVec Ideal S84x2 .f32) (n : Fin 4096) (e : Fin 2) :
    logits h g (ix2 n e) = logit (fun k => h (ix2 n k)) g e := by
  pointwise [logits, logit]

theorem weights_any (l : FVec Ideal S4096x2 .f32) (n : Fin 4096) (e : Fin 2) :
    weights l (ix2 n e) = Ideal.exp (l (ix2 n e) - max (l (ix2 n 0)) (l (ix2 n 1))) := by
  pointwise [weights]
  rw [show Ideal.ofBits .f32 0xFF800000#32 = (⊥ : EReal) from rfl, fold_max_two, max_eq_right (bot_le : (⊥ : EReal) ≤ _)]

theorem gates_any (w : FVec Ideal S4096x2 .f32) (n : Fin 4096) (e : Fin 2) :
    gates w (ix2 n e) = Ideal.div (w (ix2 n e)) (w (ix2 n 0) + w (ix2 n 1)) := by
  pointwise [gates]
  rw [Fin.sum_univ_two]

/-- The two gates of each image. -/
def probs (h : FVec Ideal S4096x84 .f32) (g : FVec Ideal S84x2 .f32) : FVec Ideal S4096x2 .f32 :=
  gates (weights (logits h g))

/-- An image's first gate. -/
theorem probs_zero (h : FVec Ideal S4096x84 .f32) (g : FVec Ideal S84x2 .f32) (n : Fin 4096) :
    probs h g (ix2 n 0) = gate (logit (fun k => h (ix2 n k)) g 0) (logit (fun k => h (ix2 n k)) g 1) := by
  unfold probs gate weight
  rw [gates_any, weights_any, weights_any, logits_at, logits_at]
  rw [max_comm (logit _ g 1)]

/-- An image's second gate. -/
theorem probs_one (h : FVec Ideal S4096x84 .f32) (g : FVec Ideal S84x2 .f32) (n : Fin 4096) :
    probs h g (ix2 n 1) = gate (logit (fun k => h (ix2 n k)) g 1) (logit (fun k => h (ix2 n k)) g 0) := by
  unfold probs gate weight
  rw [gates_any, weights_any, weights_any, logits_at, logits_at, max_comm (logit _ g 1), add_comm]

/-- A stable sort of two positions is a permutation of them. -/
theorem sorted_two (b : Fin 2 → Fin 2 → Bool) : ∃ π : Equiv.Perm (Fin 2), ∀ k, sortedFrom b k = π k := by
  have hs : sortPositions 2 b = if b 1 0 then [1, 0] else [0, 1] := by
    show insertBefore b 0 [1] = _
    unfold insertBefore
    rfl
  by_cases h : b 1 0 = true
  · refine ⟨Equiv.swap 0 1, fun k => ?_⟩
    unfold sortedFrom
    have e : sortPositions 2 b = [1, 0] := by rw [hs, if_pos h]
    rw [List.get_of_eq e]
    match k with
    | 0 => rfl
    | 1 => rfl
  · refine ⟨Equiv.refl _, fun k => ?_⟩
    unfold sortedFrom
    have e : sortPositions 2 b = [0, 1] := by rw [hs, if_neg h]
    rw [List.get_of_eq e]
    match k with
    | 0 => rfl
    | 1 => rfl

/-- A row of the sorted array and of the sorted positions: the row and the position words, permuted alike. -/
theorem top_at (x : FVec Ideal S4096x2 .f32) (gt : EReal → EReal → BitVec 1) (n : Fin 4096) :
    ∃ π : Equiv.Perm (Fin 2), ∀ k : Fin 2,
      (Host.topK S4096x2 1 gt x sliceFits_S4096x2_S4096x2).1 (ix2 n k) = x (ix2 n (π k))
      ∧ (Host.topK S4096x2 1 gt x sliceFits_S4096x2_S4096x2).2 (ix2 n k) = BitVec.ofNat 32 (π k).val := by
  obtain ⟨π, hπ⟩ := sorted_two (fun k k' => gt (x (ix2 n k)) (x (ix2 n k')) == 1#1)
  have al (k q : Fin 2) : (ix2 n k : S4096x2.Idx).along 1 q = ix2 n q := by
    funext a
    match a with
    | ⟨0, _⟩ => rfl
    | ⟨1, _⟩ => rfl
  have sl (k : Fin 2) {α : Type} (z : S4096x2.Idx → α) :
      extractStridedSlice S4096x2 (fun _ => 0) z sliceFits_S4096x2_S4096x2 (ix2 n k) = z (ix2 n k) :=
    congrArg z (funext fun a => by
      match a with
      | ⟨0, _⟩ => exact Fin.ext (Nat.zero_add _)
      | ⟨1, _⟩ => exact Fin.ext (Nat.zero_add _))
  have so (k : Fin 2) : sortedFrom (fun q q' => gt (x ((ix2 n k : S4096x2.Idx).along 1 q)) (x ((ix2 n k : S4096x2.Idx).along 1 q')) == 1#1) k
      = π k := by
    refine Eq.trans (congrArg (fun b => sortedFrom b k) ?_) (hπ k)
    funext q q'
    exact congrArg₂ (fun i j => gt (x i) (x j) == 1#1) (al k q) (al k q')
  refine ⟨π, fun k => ⟨?_, ?_⟩⟩
  · refine (sl k (Host.sort2 S4096x2 1 (fun l r => gt l.1 r.1) x (iotaInDim S4096x2 32 1)).1).trans ?_
    show x ((ix2 n k : S4096x2.Idx).along 1 (sortedFrom (fun q q' => gt (x ((ix2 n k : S4096x2.Idx).along 1 q)) (x ((ix2 n k : S4096x2.Idx).along 1 q')) == 1#1) k)) = _
    rw [so, al]
  · refine (sl k (Host.sort2 S4096x2 1 (fun l r => gt l.1 r.1) x (iotaInDim S4096x2 32 1)).2).trans ?_
    show iotaInDim S4096x2 32 1 ((ix2 n k : S4096x2.Idx).along 1 (sortedFrom (fun q q' => gt (x ((ix2 n k : S4096x2.Idx).along 1 q)) (x ((ix2 n k : S4096x2.Idx).along 1 q')) == 1#1) k)) = _
    rw [so, al]
    rfl

end Cert.Ref
end
-- ==== Proof.RPick.lean ====
/- The reference's reading of each expert's row by its number, and its mixture and last layer, at an entry. -/
module

public import proofs.«01_k».proof.Proof.Gen.ReferenceIdeal.Run
public import proofs.«01_k».proof.Proof.Spec
public import Idealize.ShloMosaic.Lib.WordCmp

@[expose] public section

set_option maxRecDepth 16384

noncomputable section

namespace Cert.Ref
open Idealize.ShloMosaic Idealize.ShloMosaic.TcCoe Idealize.SL.Sem
open Cert.ReferenceIdeal Cert.ReferenceIdeal.Gen Cert.Net

/-- The position words, those below zero moved up by two. -/
def wraps (i : IVec S4096x2x1 32) : IVec S4096x2x1 32 :=
  select (cmpi .slt i (broadcastInDim S4096x2x1 ![] bcast_S_S4096x2x1 (constantI S_ 32 0#32)))
    (addi i (broadcastInDim S4096x2x1 ![] bcast_S_S4096x2x1 (constantI S_ 32 2#32))) i

/-- Whether each position word lies among the two positions. -/
def inside (i : IVec S4096x2x1 32) : IVec S4096x2 1 :=
  Host.reduce IntOp.andi (andi (cmpi .sge i (broadcastInDim S4096x2x1 ![] bcast_S_S4096x2x1 (constantI S_ 32 0#32)))
    (cmpi .sle i (broadcastInDim S4096x2x1 ![0, 1, 2] bcast_S1x1x1_S4096x2x1_0_1_2
      (broadcastInDim S1x1x1 ![2] bcast_S1_S1x1x1_2 (constantI S1 32 1#32))))) (constantI S_ 1 1#1)
    reducesTo_S4096x2x1_S4096x2_d2 h_S_

/-- The rows read at the position words. -/
def reads (x : FVec Ideal S4096x2x84 .f32) (i : IVec S4096x2x1 32) : FVec Ideal S4096x2x84 .f32 :=
  Host.gather gather_S4096x2x84_S4096x2x1_S4096x2x84_2_1_0_0_1_2_1184 x i

/-- The rows read at the position words, where the words lie among the positions. -/
def picks (x : FVec Ideal S4096x2x84 .f32) (i : IVec S4096x2x1 32) : FVec Ideal S4096x2x84 .f32 :=
  select (broadcastInDim S4096x2x84 ![0, 1] bcast_S4096x2_S4096x2x84_0_1 (inside i)) (reads x i)
    (broadcastInDim S4096x2x84 ![] bcast_S_S4096x2x84 (constant S_ .f32 0x7FC00000#32))

/-- The experts' outputs. -/
def experts (h : FVec Ideal S4096x84 .f32) (w : FVec Ideal S2x84x84 .f32) (b : FVec Ideal S2x84 .f32) :
    FVec Ideal S4096x2x84 .f32 :=
  addf (Host.dotGeneral dot_S4096x84_S2x84x84_S4096x2x84_1_2_0_01_n_n none h w)
    (broadcastInDim S4096x2x84 ![0, 1, 2] bcast_S1x2x84_S4096x2x84_0_1_2 (broadcastInDim S1x2x84 ![1, 2] bcast_S2x84_S1x2x84_1_2 b))

/-- Each row divided by its sum and the small constant. -/
def shares (v : FVec Ideal S4096x2 .f32) : FVec Ideal S4096x2 .f32 :=
  Host.divf v (broadcastInDim S4096x2 ![0, 1] bcast_S4096x1_S4096x2_0_1
    (addf (broadcastInDim S4096x1 ![0] bcast_S4096_S4096x1_0
      (Host.reduceAdd v (constant S_ .f32 0x00000000#32) reducesTo_S4096x2_S4096_d1 h_S_))
      (broadcastInDim S4096x1 ![] bcast_S_S4096x1 (constant S_ .f32 0x3089705F#32))))

/-- The rows weighed and added. -/
def mixed (v : FVec Ideal S4096x2 .f32) (x : FVec Ideal S4096x2x84 .f32) : FVec Ideal S4096x84 .f32 :=
  Host.reduceAdd (mulf (broadcastInDim S4096x2x84 ![0, 1, 2] bcast_S4096x2x1_S4096x2x84_0_1_2
    (broadcastInDim S4096x2x1 ![0, 1] bcast_S4096x2_S4096x2x1_0_1 v)) x) (constant S_ .f32 0x00000000#32)
    reducesTo_S4096x2x84_S4096x84_d1 h_S_

/-- The last dense layer. -/
def outs (z : FVec Ideal S4096x84 .f32) (a : FVec Ideal S10x84 .f32) (b : FVec Ideal S10 .f32) : FVec Ideal S4096x10 .f32 :=
  addf (Host.dotGeneral dot_S4096x84_S84x10_S4096x10_1_0_0_1_n_n none z
      (transpose S84x10 [1, 0] a transposes_S10x84_S84x10_1_0))
    (broadcastInDim S4096x10 ![0, 1] bcast_S1x10_S4096x10_0_1 (broadcastInDim S1x10 ![1] bcast_S10_S1x10_1 b))

/-- A word that is a position stays as it is. -/
theorem wraps_at (i : IVec S4096x2x1 32) (n : Fin 4096) (k e : Fin 2) (h : i (ix3 n k 0) = BitVec.ofNat 32 e.val) :
    wraps i (ix3 n k 0) = BitVec.ofNat 32 e.val := by
  have c (e : Fin 2) : (if IntOp.cmpi .slt (BitVec.ofNat 32 e.val) 0#32 = 1#1 then BitVec.ofNat 32 e.val + 2#32
      else BitVec.ofNat 32 e.val) = BitVec.ofNat 32 e.val := by
    revert e; decide
  have s (x : BitVec 32) (hx : i (ix3 n k 0) = x) : wraps i (ix3 n k 0)
      = if IntOp.cmpi .slt x 0#32 = 1#1 then x + 2#32 else x := by
    subst hx; rfl
  exact (s _ h).trans (c e)

/-- A word that is a position is found to be one. -/
theorem inside_at (i : IVec S4096x2x1 32) (n : Fin 4096) (k e : Fin 2) (h : i (ix3 n k 0) = BitVec.ofNat 32 e.val) :
    inside i (ix2 n k) = 1#1 := by
  pointwise [inside]
  rw [show (Finset.univ : Finset (Fin 1)) = {0} from rfl, Finset.fold_singleton]
  have c (e : Fin 2) : IntOp.andi (IntOp.andi (IntOp.cmpi .sge (BitVec.ofNat 32 e.val) 0#32)
      (IntOp.cmpi .sle (BitVec.ofNat 32 e.val) 1#32)) 1#1 = 1#1 := by
    revert e; decide
  rw [h]
  exact c e

/-- The row read at a word that is a position. -/
theorem reads_at (x : FVec Ideal S4096x2x84 .f32) (i : IVec S4096x2x1 32) (n : Fin 4096) (k e : Fin 2) (d : Fin 84)
    (h : i (ix3 n k 0) = BitVec.ofNat 32 e.val) : reads x i (ix3 n k d) = x (ix3 n e d) := by
  unfold reads Host.gather
  refine congrArg x (funext fun a => Fin.ext ?_)
  show GatherDims.start _ _ _ a + GatherDims.batchCoord _ _ a + GatherDims.offCoord _ _ a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S4096x2x84_S4096x2x1_S4096x2x84_2_1_0_0_1_2_1184.operandBatchingDims from
      List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S4096x2x84_S4096x2x1_S4096x2x84_2_1_0_0_1_2_1184.startIndexMap from
      List.mem_singleton.mpr rfl)]
    have hsi (c) : gather_S4096x2x84_S4096x2x1_S4096x2x84_2_1_0_0_1_2_1184.siIdx (ix3 n k d) c = ix3 n k 0 := by
      funext b
      match b with
      | ⟨0, _⟩ => rfl
      | ⟨1, _⟩ => rfl
      | ⟨2, _⟩ => exact Subsingleton.elim (α := Fin 1) _ _
    rw [hsi, h]
    have c (e : Fin 2) : min (BitVec.ofNat 32 e.val).toInt.toNat 1 = e.val := by revert e; decide
    exact c e
  · rw [GatherDims.batchCoord_eq_zero _ _ _ (fun h => absurd (List.mem_singleton.mp h) (by decide))]
    unfold GatherDims.start
    rw [dif_neg (show (2 : Fin 3) ∉ gather_S4096x2x84_S4096x2x1_S4096x2x84_2_1_0_0_1_2_1184.startIndexMap from
      fun h => absurd (List.mem_singleton.mp h) (by decide))]
    simp only [Nat.zero_add]
    rfl

/-- The row picked at a word that is a position. -/
theorem picks_at (x : FVec Ideal S4096x2x84 .f32) (i : IVec S4096x2x1 32) (n : Fin 4096) (k e : Fin 2) (d : Fin 84)
    (h : i (ix3 n k 0) = BitVec.ofNat 32 e.val) : picks x i (ix3 n k d) = x (ix3 n e d) := by
  have s (m : IVec S4096x2 1) (y z : FVec Ideal S4096x2x84 .f32) (hm : m (ix2 n k) = 1#1) :
      select (broadcastInDim S4096x2x84 ![0, 1] bcast_S4096x2_S4096x2x84_0_1 m) y z (ix3 n k d) = y (ix3 n k d) := by
    pointwise
    rw [hm]
    rfl
  exact (s _ _ _ (inside_at i n k e h)).trans (reads_at x i n k e d h)

theorem experts_at (h : FVec Ideal S4096x84 .f32) (w : FVec Ideal S2x84x84 .f32) (b : FVec Ideal S2x84 .f32)
    (n : Fin 4096) (e : Fin 2) (d : Fin 84) : experts h w b (ix3 n e d) = expert (fun k => h (ix2 n k)) w b e d := by
  pointwise [experts, expert]

theorem shares_at (v : FVec Ideal S4096x2 .f32) (n : Fin 4096) (k : Fin 2) :
    shares v (ix2 n k) = Ideal.div (v (ix2 n k)) ((∑ e : Fin 2, v (ix2 n e)) + eps) := by
  pointwise [shares, eps]

theorem mixed_at (v : FVec Ideal S4096x2 .f32) (x : FVec Ideal S4096x2x84 .f32) (n : Fin 4096) (d : Fin 84) :
    mixed v x (ix2 n d) = ∑ k : Fin 2, v (ix2 n k) * x (ix3 n k d) := by
  pointwise [mixed]

theorem outs_at (z : FVec Ideal S4096x84 .f32) (a : FVec Ideal S10x84 .f32) (b : FVec Ideal S10 .f32) (n : Fin 4096)
    (q : Fin 10) : outs z a b (ix2 n q) = dense4 (fun d => z (ix2 n d)) a b q := by
  pointwise [outs, dense4]

end Cert.Ref
end
-- ==== Proof.Mix.lean ====
/- Dividing each gate by the gates' total before the mixture, or the mixture by it afterwards, is the same. -/
module

public import proofs.«01_k».proof.Proof.Spec

@[expose] public section

noncomputable section

namespace Cert.Net

open Idealize.ShloMosaic

/-- The constant added to the gates' sum is a positive real. -/
theorem eps_real : ∃ r : ℝ, 0 < r ∧ eps = (r : EReal) := by
  refine ⟨1 * ((2 ^ 23 + 618591 : ℕ) : ℝ) * (2 : ℝ) ^ (97 - 127 - 23 : Int), by positivity, ?_⟩
  have h1 : ((0x3089705F#32 : BitVec 32).extractLsb' (8 + 23) 1 == 1#1) = false := by decide
  have h2 : ((0x3089705F#32 : BitVec 32).extractLsb' 23 8).toNat = 97 := by decide
  have h3 : ((0x3089705F#32 : BitVec 32).extractLsb' 0 23).toNat = 618591 := by decide
  show Ideal.ieee 8 23 (0x3089705F#32 : BitVec 32) = _
  unfold Ideal.ieee
  simp only [h1, h2, h3]
  norm_num

/-- A weight is a nonnegative real: its exponent is at most zero. -/
theorem weight_real (l l' : EReal) : ∃ r : ℝ, 0 ≤ r ∧ weight l l' = (r : EReal) := by
  unfold weight
  have key (z : EReal) (hz : z ≠ ⊤) : ∃ r : ℝ, 0 ≤ r ∧ Ideal.exp z = (r : EReal) := by
    induction z with
    | bot => exact ⟨0, le_refl 0, rfl⟩
    | top => exact absurd rfl hz
    | coe r => exact ⟨Real.exp r, (Real.exp_pos r).le, rfl⟩
  refine key _ fun h => ?_
  have hle : l ≤ max l l' := le_max_left _ _
  induction l with
  | bot => rw [EReal.bot_sub] at h; exact absurd h bot_ne_top
  | top => rw [max_eq_left le_top, EReal.sub_top] at h; exact absurd h bot_ne_top
  | coe r =>
    induction l' with
    | bot =>
      rw [max_eq_left bot_le, ← EReal.coe_sub] at h
      exact EReal.coe_ne_top _ h
    | top => rw [max_eq_right le_top, EReal.sub_top] at h; exact absurd h bot_ne_top
    | coe r' =>
      rw [show max (r : EReal) (r' : EReal) = ((max r r' : ℝ) : EReal) from (EReal.coe_strictMono.monotone.map_max).symm, ← EReal.coe_sub] at h
      exact EReal.coe_ne_top _ h

/-- The two gates are nonnegative reals with a positive total, or the total is `⊥`. -/
theorem gates_cases (l l' : EReal) :
    (∃ t : ℝ, 0 < t ∧ total l l' = (t : EReal) ∧ (∃ r : ℝ, 0 ≤ r ∧ gate l l' = (r : EReal))
      ∧ ∃ r : ℝ, 0 ≤ r ∧ gate l' l = (r : EReal)) ∨ total l l' = ⊥ := by
  obtain ⟨a, ha, ea⟩ := weight_real l l'
  obtain ⟨b, hb, eb⟩ := weight_real l' l
  obtain ⟨u, hu, eu⟩ := eps_real
  rcases (add_nonneg ha hb).eq_or_lt with h0 | hpos
  · right
    have : gate l l' = ⊥ := by
      unfold gate Ideal.div
      have a0 : a = 0 := by linarith
      have b0 : b = 0 := by linarith
      rw [ea, eb, a0, b0, EReal.coe_zero, add_zero, if_pos rfl, if_neg (lt_irrefl _)]
    unfold total
    rw [this, EReal.bot_add, EReal.bot_add]
  · left
    have g (x y : ℝ) (hxy : 0 < x + y) : Ideal.div (x : EReal) ((x : EReal) + (y : EReal)) = ((x / (x + y) : ℝ) : EReal) := by
      unfold Ideal.div
      rw [← EReal.coe_add, if_neg (by exact_mod_cast hxy.ne'), ← EReal.coe_inv, ← EReal.coe_mul, div_eq_mul_inv]
    have g1 : gate l l' = ((a / (a + b) : ℝ) : EReal) := by unfold gate; rw [ea, eb]; exact g a b hpos
    have g2 : gate l' l = ((b / (b + a) : ℝ) : EReal) := by
      unfold gate; rw [ea, eb]; exact g b a (by linarith)
    have n1 : 0 ≤ a / (a + b) := div_nonneg ha hpos.le
    have n2 : 0 ≤ b / (b + a) := div_nonneg hb (by linarith)
    refine ⟨a / (a + b) + b / (b + a) + u, by linarith, ?_, ⟨_, n1, g1⟩, ⟨_, n2, g2⟩⟩
    unfold total
    rw [g1, g2, eu, ← EReal.coe_add, ← EReal.coe_add]

/-- The mixture by the gates each divided by the total is the mixture divided by the total. -/
theorem mix_shares (l l' e e' : EReal) :
    Ideal.div (gate l l') (total l l') * e + Ideal.div (gate l' l) (total l l') * e' = mix l l' e e' := by
  unfold mix Ideal.div
  rcases gates_cases l l' with ⟨t, ht, et, ⟨r, hr, er⟩, ⟨s, hs, es⟩⟩ | hb
  · have hne : ((t : ℝ) : EReal) ≠ 0 := by exact_mod_cast ht.ne'
    rw [et, if_neg hne, if_neg hne, if_neg hne, er, es, ← EReal.coe_inv]
    have hc : (0 : EReal) ≤ ((t⁻¹ : ℝ) : EReal) := by exact_mod_cast (inv_pos.2 ht).le
    rw [mul_comm (_ + _) ((t⁻¹ : ℝ) : EReal), EReal.left_distrib_of_nonneg_of_ne_top hc (EReal.coe_ne_top _)]
    ac_rfl
  · have hne : (⊥ : EReal) ≠ 0 := EReal.bot_ne_zero
    rw [hb, if_neg hne, if_neg hne, if_neg hne, EReal.inv_bot]
    simp only [mul_zero, zero_mul, add_zero]

end Cert.Net

end
-- ==== Proof.RFinal.lean ====
/- The reference's result is the network. -/
module

public import proofs.«01_k».proof.Proof.RHidden
public import proofs.«01_k».proof.Proof.RTop
public import proofs.«01_k».proof.Proof.RPick
public import proofs.«01_k».proof.Proof.Mix

@[expose] public section

set_option maxRecDepth 16384

noncomputable section

namespace Cert.Ref
open Idealize.ShloMosaic Idealize.ShloMosaic.TcCoe Idealize.SL.Sem
open Cert.ReferenceIdeal Cert.ReferenceIdeal.Gen Cert.Net

/-- The gates sorted, and the experts' numbers sorted alike. -/
def tops (p : FVec Ideal S4096x2 .f32) : FVec Ideal S4096x2 .f32 × IVec S4096x2 32 :=
  Host.topK S4096x2 1 (FloatOps.cmpfTotal (F := Ideal) (φ := .f32) .gt) p sliceFits_S4096x2_S4096x2

/-- Everything after the hidden layer. -/
def heads (h : FVec Ideal S4096x84 .f32) (g : FVec Ideal S84x2 .f32) (w : FVec Ideal S2x84x84 .f32)
    (ω : FVec Ideal S2x84 .f32) (a : FVec Ideal S10x84 .f32) (b : FVec Ideal S10 .f32) : FVec Ideal S4096x10 .f32 :=
  outs (mixed (shares (tops (probs h g)).1) (picks (experts h w ω)
    (wraps (broadcastInDim S4096x2x1 ![0, 1] bcast_S4096x2_S4096x2x1_0_1 (tops (probs h g)).2)))) a b

/-- The mixture at an entry: the order of the sort does not matter, for the experts' rows are read in the same order. -/
theorem mixed_tops (h : FVec Ideal S4096x84 .f32) (g : FVec Ideal S84x2 .f32) (w : FVec Ideal S2x84x84 .f32)
    (ω : FVec Ideal S2x84 .f32) (n : Fin 4096) (d : Fin 84) :
    mixed (shares (tops (probs h g)).1) (picks (experts h w ω)
        (wraps (broadcastInDim S4096x2x1 ![0, 1] bcast_S4096x2_S4096x2x1_0_1 (tops (probs h g)).2))) (ix2 n d)
      = mix (logit (fun k => h (ix2 n k)) g 0) (logit (fun k => h (ix2 n k)) g 1)
          (expert (fun k => h (ix2 n k)) w ω 0 d) (expert (fun k => h (ix2 n k)) w ω 1 d) := by
  obtain ⟨π, hπ⟩ := top_at (probs h g) (FloatOps.cmpfTotal (F := Ideal) (φ := .f32) .gt) n
  have hb (z : IVec S4096x2 32) (k : Fin 2) :
      broadcastInDim S4096x2x1 ![0, 1] bcast_S4096x2_S4096x2x1_0_1 z (ix3 n k 0) = z (ix2 n k) := by pointwise
  have hv (k : Fin 2) : (tops (probs h g)).1 (ix2 n k) = probs h g (ix2 n (π k)) := (hπ k).1
  have hi (k : Fin 2) : (tops (probs h g)).2 (ix2 n k) = BitVec.ofNat 32 (π k).val := (hπ k).2
  have hp (k : Fin 2) : picks (experts h w ω)
      (wraps (broadcastInDim S4096x2x1 ![0, 1] bcast_S4096x2_S4096x2x1_0_1 (tops (probs h g)).2)) (ix3 n k d)
      = expert (fun k => h (ix2 n k)) w ω (π k) d :=
    (picks_at _ _ n k (π k) d (wraps_at _ n k (π k) ((hb _ k).trans (hi k)))).trans (experts_at h w ω n (π k) d)
  rw [mixed_at]
  simp only [shares_at, hp, hv]
  rw [Equiv.sum_comp π (fun e => probs h g (ix2 n e)),
    Equiv.sum_comp π (fun e => Ideal.div (probs h g (ix2 n e)) ((∑ e : Fin 2, probs h g (ix2 n e)) + eps)
      * expert (fun k => h (ix2 n k)) w ω e d)]
  rw [Fin.sum_univ_two, Fin.sum_univ_two, probs_zero, probs_one]
  exact mix_shares _ _ _ _

/-- Everything after the hidden layer, at an entry. -/
theorem heads_at (h : FVec Ideal S4096x84 .f32) (g : FVec Ideal S84x2 .f32) (w : FVec Ideal S2x84x84 .f32)
    (ω : FVec Ideal S2x84 .f32) (a : FVec Ideal S10x84 .f32) (b : FVec Ideal S10 .f32) (n : Fin 4096) (q : Fin 10) :
    heads h g w ω a b (ix2 n q) = head (fun k => h (ix2 n k)) g w ω a b q := by
  unfold heads head
  rw [outs_at]
  exact congrArg (fun z => dense4 z a b q) (funext fun d => mixed_tops h g w ω n d)

/-- The two parts of the reference composed are the network. -/
theorem heads_hiddens (x : FVec Ideal S4096x3x32x32 .f32) (k1 : FVec Ideal S6x3x5x5 .f32) (b1 : FVec Ideal S6 .f32)
    (k2 : FVec Ideal S16x6x5x5 .f32) (b2 : FVec Ideal S16 .f32) (a1 : FVec Ideal S120x400 .f32) (g1 : FVec Ideal S120 .f32)
    (a2 : FVec Ideal S84x120 .f32) (g2 : FVec Ideal S84 .f32) (g : FVec Ideal S84x2 .f32) (w : FVec Ideal S2x84x84 .f32)
    (ω : FVec Ideal S2x84 .f32) (a : FVec Ideal S10x84 .f32) (b : FVec Ideal S10 .f32) :
    heads (hiddens x k1 b1 k2 b2 a1 g1 a2 g2) g w ω a b = net x k1 b1 k2 b2 a1 g1 a2 g2 g w ω a b := by
  funext i
  obtain ⟨n, q, rfl⟩ : ∃ (n : Fin 4096) (q : Fin 10), i = ix2 n q := ⟨i 0, i 1, eq_ix2 i⟩
  rw [heads_at]
  exact congrArg (fun Y => head Y g w ω a b q) (funext fun k => hiddens_at x k1 b1 k2 b2 a1 g1 a2 g2 n k)

/-- The run's final term is everything after the hidden layer applied to the term it names for the hidden layer. -/
theorem tail_eq (V : Valuation τ sig (Elt Ideal)) :
    outs (mixed (shares (Value.res_main_values V)) (picks (experts (Value.res_main_v72 V) (V (Proc.devRef .tc main_arg10))
        (V (Proc.devRef .tc main_arg11))) (Value.res_main_call4_v4 V))) (V (Proc.devRef .tc main_arg12))
        (V (Proc.devRef .tc main_arg13))
      = net (V (Proc.devRef .tc main_arg0)) (V (Proc.devRef .tc main_arg1))
        (V (Proc.devRef .tc main_arg2)) (V (Proc.devRef .tc main_arg3)) (V (Proc.devRef .tc main_arg4))
        (V (Proc.devRef .tc main_arg5)) (V (Proc.devRef .tc main_arg6)) (V (Proc.devRef .tc main_arg7))
        (V (Proc.devRef .tc main_arg8)) (V (Proc.devRef .tc main_arg9)) (V (Proc.devRef .tc main_arg10))
        (V (Proc.devRef .tc main_arg11)) (V (Proc.devRef .tc main_arg12)) (V (Proc.devRef .tc main_arg13)) := by
  have h84 : Value.res_main_v84 V = probs (Value.res_main_v72 V) (V (Proc.devRef .tc main_arg9)) := rfl
  have hv : Value.res_main_values V = (tops (Value.res_main_v84 V)).1 := rfl
  have hc : Value.res_main_call4_v4 V = wraps (broadcastInDim S4096x2x1 ![0, 1] bcast_S4096x2_S4096x2x1_0_1
    (tops (Value.res_main_v84 V)).2) := rfl
  rw [hv, hc, h84, v72_eq]
  exact heads_hiddens _ _ _ _ _ _ _ _ _ _ _ _ _ _

end Cert.Ref
end
-- ==== Proof.lean ====
/- The certificate: the three programs' frames, the idealization's steps (none), and the equality of the kernel's
   and the reference's results over the extended reals. Both results are the network `Cert.Net.net` of the
   arguments: `Cert.Ker.final` says so of the kernel, `Cert.Ref.tail_eq` of the reference. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KFinal
public import proofs.«01_k».proof.Proof.RFinal
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference runs, ends with its arguments unchanged and every semaphore counter at zero. -/
theorem reference_frame : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩)
    (Cert.ReferenceIdeal.Value.run (F := Ideal) m g)

/-- The kernel runs, and every final state has the network of the arguments in the result array and the arguments
    unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v0) = Cert.Ker.G m c) :=
  (θ_run Cert.KernelIdeal.defs _ _).mono (fun r h c => ((h c).1 16).trans (Cert.Ker.final m c))
    (Cert.KernelIdeal.Gen.run_main m g)

/-- The reference's result term over its own launch memory is the network of the kernel's arguments, the two memories
    agreeing on them; so it is the kernel's final array. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.Ker.G m c, ?_, ?_⟩
  · exact (θ_run Cert.KernelIdeal.defs _ _).mono (fun r h c => ⟨h.1 c, h.2 c⟩)
      (θ_run_and (kernel_run m g) (Cert.KernelIdeal.Gen.unchanged m g))
  · refine (θ_run Cert.ReferenceIdeal.defs _ _).mono (fun r h c => ⟨(h c).1.trans ?_, (h c).2⟩)
      (Cert.ReferenceIdeal.Value.run (F := Ideal) m' g')
    refine (Cert.Ref.tail_eq (StableHlo.launchContents m' c)).trans ?_
    obtain ⟨a0, a1, a2, a3, a4, a5, a6, a7, a8, a9, a10, a11, a12, a13⟩ := hagree c
    show Cert.Net.net (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13)) = Cert.Ker.G m c
    rw [a0, a1, a2, a3, a4, a5, a6, a7, a8, a9, a10, a11, a12, a13]
    rfl

/-- Everything the certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, algebraic⟩

end Cert.Proof

end
